-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S3x512x256 : Shape := ⟨3, ![3, 512, 256]⟩
abbrev S3 : Shape := ⟨1, ![3]⟩
abbrev S_ : Shape := ⟨0, ![]⟩
abbrev S1 : Shape := ⟨1, ![1]⟩
abbrev S1x512x256 : Shape := ⟨3, ![1, 512, 256]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .bf16⟩
  | .hbm, ⟨1, _⟩ => ⟨S512x256, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S3x512x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_31 : BitVec 32 := 2#32
  let v48 : BitVec 32 := Scalar.addi v2 c2_i32_31
  let c4_i32_32 : BitVec 32 := 4#32
  let c0_i32_33 : BitVec 32 := 0#32
  let v49 : BitVec 1 := Scalar.cmpi .eq c4_i32_32 c0_i32_33
  let c1_i32_34 : BitVec 32 := 1#32
  let v50 : BitVec 32 := Scalar.select v49 c1_i32_34 c4_i32_32
  let v51 : BitVec 32 := Scalar.remsi v48 v50
  let c0_i32_36 : BitVec 32 := 0#32
  let v53 : BitVec 1 := Scalar.cmpi .slt v51 c0_i32_36
  let c0_i32_37 : BitVec 32 := 0#32
  let v54 : BitVec 1 := Scalar.cmpi .slt v50 c0_i32_37
  let v55 : BitVec 1 := Scalar.xori v53 v54
  let c0_i32_35 : BitVec 32 := 0#32
  let v52 : BitVec 1 := Scalar.cmpi .ne v51 c0_i32_35
  let v56 : BitVec 1 := Scalar.andi v55 v52
  let v57 : BitVec 32 := Scalar.addi v51 v50
  let v58 : BitVec 32 := Scalar.select v56 v57 v51
  let c1_i32_41 : BitVec 32 := 1#32
  let v59 : BitVec 32 := Scalar.muli v58 c1_i32_41
  let v60 : BitVec 32 := Scalar.addi c0_i32_42 v59
  v60.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_45 : BitVec 32 := 1#32
  let v67 : BitVec 32 := Scalar.addi v2 c1_i32_45
  let c4_i32_46 : BitVec 32 := 4#32
  let c0_i32_47 : BitVec 32 := 0#32
  let v68 : BitVec 1 := Scalar.cmpi .eq c4_i32_46 c0_i32_47
  let c1_i32_48 : BitVec 32 := 1#32
  let v69 : BitVec 32 := Scalar.select v68 c1_i32_48 c4_i32_46
  let v70 : BitVec 32 := Scalar.remsi v67 v69
  let c0_i32_50 : BitVec 32 := 0#32
  let v72 : BitVec 1 := Scalar.cmpi .slt v70 c0_i32_50
  let c0_i32_51 : BitVec 32 := 0#32
  let v73 : BitVec 1 := Scalar.cmpi .slt v69 c0_i32_51
  let v74 : BitVec 1 := Scalar.xori v72 v73
  let c0_i32_49 : BitVec 32 := 0#32
  let v71 : BitVec 1 := Scalar.cmpi .ne v70 c0_i32_49
  let v75 : BitVec 1 := Scalar.andi v74 v71
  let v76 : BitVec 32 := Scalar.addi v70 v69
  let v77 : BitVec 32 := Scalar.select v75 v76 v70
  let c1_i32_55 : BitVec 32 := 1#32
  let v78 : BitVec 32 := Scalar.muli v77 c1_i32_55
  let v79 : BitVec 32 := Scalar.addi c0_i32_56 v78
  v79.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_59 : BitVec 32 := 3#32
  let v86 : BitVec 32 := Scalar.addi v2 c3_i32_59
  let c4_i32_60 : BitVec 32 := 4#32
  let c0_i32_61 : BitVec 32 := 0#32
  let v87 : BitVec 1 := Scalar.cmpi .eq c4_i32_60 c0_i32_61
  let c1_i32_62 : BitVec 32 := 1#32
  let v88 : BitVec 32 := Scalar.select v87 c1_i32_62 c4_i32_60
  let v89 : BitVec 32 := Scalar.remsi v86 v88
  let c0_i32_64 : BitVec 32 := 0#32
  let v91 : BitVec 1 := Scalar.cmpi .slt v89 c0_i32_64
  let c0_i32_65 : BitVec 32 := 0#32
  let v92 : BitVec 1 := Scalar.cmpi .slt v88 c0_i32_65
  let v93 : BitVec 1 := Scalar.xori v91 v92
  let c0_i32_63 : BitVec 32 := 0#32
  let v90 : BitVec 1 := Scalar.cmpi .ne v89 c0_i32_63
  let v94 : BitVec 1 := Scalar.andi v93 v90
  let v95 : BitVec 32 := Scalar.addi v89 v88
  let v96 : BitVec 32 := Scalar.select v94 v95 v89
  let c1_i32_69 : BitVec 32 := 1#32
  let v97 : BitVec 32 := Scalar.muli v96 c1_i32_69
  let v98 : BitVec 32 := Scalar.addi c0_i32_70 v97
  v98.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x256 : Shape := ⟨2, ![2048, 256]⟩
abbrev S4x512x256 : Shape := ⟨3, ![4, 512, 256]⟩
abbrev S_ : Shape := ⟨0, ![]⟩
abbrev S512x256 : Shape := ⟨2, ![512, 256]⟩

abbrev nBuf : Space → Nat
  | .hbm => 15
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S4x512x256, .bf16⟩
  | .hbm, ⟨2, _⟩ => ⟨S4x512x256, .f32⟩
  | .hbm, ⟨3, _⟩ => ⟨S_, .f32⟩
  | .hbm, ⟨4, _⟩ => ⟨S512x256, .f32⟩
  | .hbm, ⟨5, _⟩ => ⟨S512x256, .bf16⟩
  | .hbm, ⟨6, _⟩ => ⟨S_, .bf16⟩
  | .hbm, ⟨7, _⟩ => ⟨S512x256, .bf16⟩
  | .hbm, ⟨8, _⟩ => ⟨S512x256, .bf16⟩
  | .hbm, ⟨9, _⟩ => ⟨S512x256, .bf16⟩
  | .hbm, ⟨10, _⟩ => ⟨S512x256, .bf16⟩
  | .hbm, ⟨11, _⟩ => ⟨S512x256, .bf16⟩
  | .hbm, ⟨12, _⟩ => ⟨S512x256, .bf16⟩
  | .hbm, ⟨13, _⟩ => ⟨S512x256, .bf16⟩
  | .hbm, ⟨14, _⟩ => ⟨S512x256, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Proof.Mesh.lean ====
/-
# The four devices, the landing slots and the semaphores

Device `c` sends its block to the three other devices, the one `k + 1` places on into that device's landing slot `k`.
This file names the devices a device talks to, the three slots of the landing buffer as the program slices them, and
the semaphores; it shows that the slots are disjoint, that they fill the buffer, and that the six device numbers the
program computes are the expected ones.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen
open Idealize.ShloMosaic Idealize.ShloMosaic.TcCoe

/-! ## Devices -/

/-- The device `k + 1` places after `c`. -/
def peer (k : Fin 3) (c : Dev nD) : Dev nD := ⟨(c.val + (k.val + 1)) % 4, Nat.mod_lt _ (by show 0 < 4; omega)⟩

/-- The device `k + 1` places before `c`: the one whose `k`-th peer is `c`. -/
def source (k : Fin 3) (c : Dev nD) : Dev nD := peer (Fin.rev k) c

theorem source_peer (k : Fin 3) (c : Dev nD) : source k (peer k c) = c := by revert k c; decide
theorem peer_source (k : Fin 3) (c : Dev nD) : peer k (source k c) = c := by revert k c; decide
theorem peer_rev (k : Fin 3) (c : Dev nD) : peer (Fin.rev k) (peer k c) = c := source_peer k c

/-- Going `k + 1` places on is a permutation of the devices. -/
def turn (k : Fin 3) : Dev nD ≃ Dev nD := ⟨peer k, source k, source_peer k, peer_source k⟩

theorem eq_peer_iff (k : Fin 3) (c d : Dev nD) : c = peer k d ↔ d = source k c :=
  ⟨fun h => by rw [h, source_peer], fun h => by rw [h, peer_source]⟩

/-- The three signals go one, two and three places on; -/
theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
/-- and the three copies two, one and three places on. -/
theorem dev4_eq (c : Dev nD) : (⟨k0_dev4 c, k0_dev4_lt c⟩ : Dev nD) = peer 1 c := by revert c; decide +kernel
theorem dev5_eq (c : Dev nD) : (⟨k0_dev5 c, k0_dev5_lt c⟩ : Dev nD) = peer 0 c := by revert c; decide +kernel
theorem dev6_eq (c : Dev nD) : (⟨k0_dev6 c, k0_dev6_lt c⟩ : Dev nD) = peer 2 c := by revert c; decide +kernel

/-! ## Buffers -/

/-- The device's block of the input, the result, the copy of the block that is sent, and the three landing slots. -/
abbrev xM : Memref sig .tc .vmem S512x256 .bf16 := Memref.whole cc0_stg0_0
abbrev oM : Memref sig .tc .vmem S512x256 .bf16 := Memref.whole cc0_stg1_0
abbrev stM : Memref sig .tc .vmem S512x256 .bf16 := Memref.whole cc0_scratch0
abbrev cM : Memref sig .tc .vmem S3x512x256 .bf16 := Memref.whole cc0_scratch1

theorem slot_inb (k : Fin 3) : ∀ a, (![k.val, 0, 0] : Fin 3 → Nat) a + S1x512x256.size a ≤ S3x512x256.size a := by
  revert k; decide

/-- Slot `k`'s rectangle of the landing buffer, -/
abbrev slotRect (k : Fin 3) : Rect S3x512x256 := Rect.unit (s := S3x512x256) ![k.val, 0, 0] S1x512x256.size (slot_inb k)
/-- and the slot as the program names it: the slice there, its unit axis dropped. -/
abbrev slot (k : Fin 3) : Memref sig .tc .vmem S512x256 .bf16 :=
  (cM.slice (slotRect k) (fun _ => rfl)).squeeze S512x256 squeezes_S1x512x256_S512x256

theorem slot_set (k : Fin 3) : (slot k).view.set = (slotRect k).set := by
  show ((cM.slice (slotRect k) (fun _ => rfl)).view.reshape S512x256 _).set = _
  rw [View.set_reshape]
  exact View.set_slice_whole cc0_scratch1 (slotRect k)

/-- Two slots have no element in common; -/
theorem slot_disjoint (k k' : Fin 3) (h : k ≠ k') : Disjoint (slotRect k).set (slotRect k').set :=
  Ring.lead_disjoint (s := S3x512x256) (NB := 3) (0 : Fin 3) 1 (fun b => ![b.val, 0, 0]) S1x512x256.size slot_inb
    (fun b => by simp) (by rfl) k k' h

/-- together they are the buffer. -/
theorem slot_cover : Finset.univ.biUnion (fun k => (slotRect k).set) = Finset.univ :=
  Ring.lead_cover (s := S3x512x256) (NB := 3) (0 : Fin 3) 1 (fun b => ![b.val, 0, 0]) S1x512x256.size slot_inb
    (fun b => by simp) (fun b a ha => by fin_cases a <;> first | rfl | exact absurd rfl ha) (by rfl)
    (fun a ha => by fin_cases a <;> first | rfl | exact absurd rfl ha) (by rfl)

/-! ## Semaphores -/

theorem sem_inb (k : Fin 3) : ∀ a, (![k.val] : Fin 1 → Nat) a + S1.size a ≤ S3.size a := by revert k; decide

/-- The semaphore all four devices meet at before the first copy. -/
abbrev barS : Sem sig := (SemArray.scalar (sig.barrier 0 rfl) : Sems sig S_).sem
/-- The semaphore of the copy to the `k`-th peer on the sending side, and of the one into slot `k` on the receiving side. -/
abbrev sendS (k : Fin 3) : DmaSem sig := ((cc0_scratch2.slice (Rect.unit (s := S3) ![k.val] S1.size (sem_inb k))).squeeze S_ squeezes_S1_S_).sem
abbrev recvS (k : Fin 3) : DmaSem sig := ((cc0_scratch3.slice (Rect.unit (s := S3) ![k.val] S1.size (sem_inb k))).squeeze S_ squeezes_S1_S_).sem

theorem sendS_val (k : Fin 3) : sendS k = ⟨2 + k.val, by show _ < 8; omega⟩ := by revert k; decide
theorem recvS_val (k : Fin 3) : recvS k = ⟨5 + k.val, by show _ < 8; omega⟩ := by revert k; decide

/-- The units one copy of a block credits. -/
abbrev N : ℕ := stM.view.dmaCredit
theorem N_pos : 0 < N := View.dmaCredit_pos _ (by decide)
theorem slot_credit (k : Fin 3) : (slot k).view.dmaCredit = N := rfl

end Cert.Exchange

end
-- ==== Proof.Protocol.lean ====
/-
# Who hands what to whom

A device owns seven semaphores that matter here: the one it waits at before its first copy, three that its own copies
credit when they have left, three that the copies into its slots credit when they have landed. Each goes through one
round.

* The first has three units in that round. Unit `j` comes from the `j`-th peer and hands over that peer's landing slot
  `j`, empty: the slot this device's `j`-th copy fills.
* A sending semaphore gives back the share of the staged block that the copy read.
* A landing semaphore of slot `k` gives the slot, holding the block of the device that fills it.

A device owes its peers' landing semaphores a block's credit each and their first semaphores a unit each. Since every
device waits for the units first and for the landings later, the levels 1 and 2 order these waits.
-/
module

public import proofs.«01_k».proof.Proof.Mesh
public import Idealize.ShloMosaic.Lib.Transfers

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

/-- The resources: the staging pipeline's and the exchange's, whose rounds name their contributions by `Fin 3`. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, all counters at zero, any generator registers. -/
def s₀ : MemSt nD τ sig (Elt F) := ⟨m, fun _ => 0, ρ⟩

/-! ## Cells -/

/-- Which of its seven semaphores: `none` the first, `(k, false)` the sending one and `(k, true)` the landing one of `k`. -/
abbrev Cell : Type := Option (Fin 3 × Bool)

/-- That semaphore, -/
abbrev csem : Cell → SemLoc sig
  | none => .reg barS
  | some (k, false) => .dma (sendS k)
  | some (k, true) => .dma (recvS k)
/-- device `c`'s. -/
abbrev kcell (ci : Dev nD × Cell) : GSem nD τ sig := ((ci.1 : Thread nD τ), csem ci.2)

abbrev barCell (c : Dev nD) : GSem nD τ sig := kcell (c, none)
abbrev sendCell (c : Dev nD) (k : Fin 3) : GSem nD τ sig := kcell (c, some (k, false))
abbrev recvCell (c : Dev nD) (k : Fin 3) : GSem nD τ sig := kcell (c, some (k, true))

/-- The reading back: which of the seven a semaphore is, if any. -/
def role : SemLoc sig → Option Cell
  | .reg q => if q = barS then some none else none
  | .dma q => if q.val < 2 then none
    else if q.val < 5 then some (some (Fin.ofNat 3 (q.val - 2), false)) else some (some (Fin.ofNat 3 (q.val - 5), true))

theorem role_csem (i : Cell) : role (csem i) = some i := by revert i; decide

theorem csem_injective : Function.Injective csem := fun i j h => by
  have := congrArg role h
  rw [role_csem, role_csem] at this
  exact Option.some.inj this

theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

theorem kcell_inj {c c' : Dev nD} {i i' : Cell} : kcell (c, i) = kcell (c', i') ↔ c = c' ∧ i = i' :=
  ⟨fun h => Prod.mk.inj (kcell_injective h), fun ⟨h, h'⟩ => by rw [h, h']⟩

/-! ## Contents -/

/-- Device `c`'s block of the input, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Slot `k` of device `c`, held at contents `f` of the whole landing buffer. -/
def slotPts (c : Dev nD) (k : Fin 3) (f : Buf (Elt F) ((slot k).view.loc (c : Thread nD τ))) : sProp 𝕄 :=
  (slot k).view.loc (c : Thread nD τ) ↦[(slot k).view.set]{fullShare} f
/-- Slot `k` of device `c` holding the block `X`. -/
def slotHas (c : Dev nD) (k : Fin 3) (X : Vec F S512x256 .bf16) : sProp 𝕄 :=
  iprop(∃ f : Buf (Elt F) ((slot k).view.loc (c : Thread nD τ)), ⌜(slot k).view.read (Elt F) f = X⌝ ∗ slotPts c k f)
/-- A share of device `c`'s copy of its block. -/
def stPts (c : Dev nD) (q : PosShare TreeShare) : sProp 𝕄 :=
  stM.view.loc (c : Thread nD τ) ↦[stM.view.set]{q} xstg m ρ c

omit [FloatOps F] in
instance slotPts_storable (c : Dev nD) (k f) : BI.Storable (upEmb : UEmb _ 𝕄) (slotPts (F := F) c k f) := by unfold slotPts; infer_instance
omit [FloatOps F] in
instance slotHas_storable (c : Dev nD) (k X) : BI.Storable (upEmb : UEmb _ 𝕄) (slotHas (F := F) c k X) := by unfold slotHas; infer_instance
omit [FloatOps F] in
instance stPts_storable (c : Dev nD) (q) : BI.Storable (upEmb : UEmb _ 𝕄) (stPts (F := F) m ρ c q) := by unfold stPts; infer_instance

/-! ## The rounds -/

/-- What unit `j` of device `c`'s first semaphore hands over: the `j`-th peer's slot `j`, and that its landing semaphore
    is at its first round. -/
def barPay (c : Dev nD) (j : Fin 3) : sProp 𝕄 := iprop((∃ f, slotPts (peer j c) j f) ∗ reached ER (recvCell (peer j c) j) 0)
/-- What a sending semaphore gives back. -/
def sendPay (c : Dev nD) (k : Fin 3) : sProp 𝕄 := stPts m ρ c (shareTok fullShare 3 k)
/-- What a landing semaphore gives. -/
def recvPay (c : Dev nD) (k : Fin 3) : sProp 𝕄 := slotHas c k (xstg m ρ (source k c))

/-- The contributions to a semaphore's round, by its role; -/
def dutiesOf : Option Cell → Finset (Fin 3)
  | some none => Finset.univ
  | some (some _) => {0}
  | none => ∅
/-- the units of each; -/
def amountOf : Option Cell → ℕ
  | some none => 1
  | _ => N
/-- what each hands over. -/
def payOf (c : Dev nD) (d : Fin 3) : Option Cell → sProp 𝕄
  | some none => barPay c d
  | some (some (k, false)) => sendPay m ρ c k
  | some (some (k, true)) => recvPay m ρ c k
  | none => iprop(emp)

/-- The exchange's rounds: one, with the contributions above. -/
def rounds : Rounds.Schedule (GSem nD τ sig) (Fin 3) 𝕄 where
  duties g r := if r = 0 ∧ g.1.2 = .tc then dutiesOf (role g.2) else ∅
  unitless _ := False
  amount g _ _ := amountOf (role g.2)
  payload g _ d := payOf m ρ g.1.1 d (role g.2)
  amount_pos g _ _ _ := by
    cases h : role g.2 with
    | none => exact N_pos
    | some i => cases i with
      | none => exact Nat.one_pos
      | some _ => exact N_pos

omit [FloatOps F] in
theorem payOf_storable (c : Dev nD) (d : Fin 3) : ∀ i, BI.Storable (upEmb : UEmb _ 𝕄) (payOf (F := F) m ρ c d i)
  | some none => by show BI.Storable upEmb (barPay (F := F) c d); unfold barPay; infer_instance
  | some (some (k, false)) => by show BI.Storable upEmb (sendPay m ρ c k); unfold sendPay; infer_instance
  | some (some (k, true)) => by show BI.Storable upEmb (recvPay m ρ c k); unfold recvPay; infer_instance
  | none => by show BI.Storable upEmb (iprop(emp) : sProp 𝕄); infer_instance

omit [FloatOps F] in
instance rounds_payload_storable (g : GSem nD τ sig) (r : ℕ) (d : Fin 3) :
    BI.Storable (upEmb : UEmb _ 𝕄) ((rounds (F := F) m ρ).payload g r d) := payOf_storable m ρ g.1.1 d (role g.2)

section Tables
variable (c : Dev nD) (k : Fin 3) (i : Cell)

omit [FloatOps F] in
theorem duties_cell : (rounds (F := F) m ρ).duties (kcell (c, i)) 0 = dutiesOf (some i) := by
  dsimp only [rounds]; rw [if_pos ⟨rfl, rfl⟩, role_csem]
omit [FloatOps F] in
theorem amount_cell (d : Fin 3) : (rounds (F := F) m ρ).amount (kcell (c, i)) 0 d = amountOf (some i) := by
  dsimp only [rounds]; rw [role_csem]
omit [FloatOps F] in
theorem payload_cell (d : Fin 3) : (rounds (F := F) m ρ).payload (kcell (c, i)) 0 d = payOf m ρ c d (some i) := by
  dsimp only [rounds]; rw [role_csem]
omit [FloatOps F] in
theorem duties_later (g : GSem nD τ sig) : ∀ r, 1 ≤ r → (rounds (F := F) m ρ).duties g r = ∅ :=
  fun r hr => by dsimp only [rounds]; rw [if_neg fun h => by omega]

omit [FloatOps F] in
theorem mem_bar (d : Fin 3) : d ∈ (rounds (F := F) m ρ).duties (barCell c) 0 := by
  rw [duties_cell]; exact Finset.mem_univ _
omit [FloatOps F] in
theorem mem_dma (b : Bool) : (0 : Fin 3) ∈ (rounds (F := F) m ρ).duties (kcell (c, some (k, b))) 0 := by
  rw [duties_cell]; exact Finset.mem_singleton_self _

omit [FloatOps F] in
theorem expect_bar : (rounds (F := F) m ρ).expect (barCell c) 0 = 3 := by
  unfold Schedule.expect Schedule.amountOf
  rw [duties_cell, Finset.sum_congr rfl fun d _ => amount_cell m ρ c none d]
  rfl
omit [FloatOps F] in
theorem expect_dma (b : Bool) : (rounds (F := F) m ρ).expect (kcell (c, some (k, b))) 0 = N := by
  unfold Schedule.expect Schedule.amountOf
  rw [duties_cell, Finset.sum_congr rfl fun d _ => amount_cell m ρ c (some (k, b)) d]
  exact Finset.sum_singleton _ _

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
/-- All that the first semaphore's round hands over: the three peers' slots. -/
theorem rest_bar : bigSep ((rounds (F := F) m ρ).duties (barCell c) 0 \ ∅) (fun d => (rounds (F := F) m ρ).payload (barCell c) 0 d)
    = iprop(barPay c 0 ∗ barPay c 1 ∗ barPay c 2) := by
  rw [Finset.sdiff_empty, duties_cell, bigSep_congr fun d _ => payload_cell m ρ c none d]
  exact bigSep_fin3 _
omit [FloatOps F] in
theorem rest_dma (b : Bool) :
    bigSep ((rounds (F := F) m ρ).duties (kcell (c, some (k, b))) 0 \ ∅) (fun d => (rounds (F := F) m ρ).payload (kcell (c, some (k, b))) 0 d)
    = payOf m ρ c 0 (some (some (k, b))) := by
  rw [Finset.sdiff_empty, duties_cell, bigSep_congr fun d _ => payload_cell m ρ c (some (k, b)) d]
  exact bigSep_singleton

end Tables

/-! ## What a device owes at launch, and the levels -/

/-- A block's credit to each peer's landing semaphore, in the order in which the copies are made from the last summand on. -/
def owedLanding (c : Dev nD) : CellTallies nD τ sig Unit :=
  tallyAt (recvCell (peer 2 c) 2) () N + tallyAt (recvCell (peer 0 c) 0) () N + tallyAt (recvCell (peer 1 c) 1) () N
/-- That and a unit to each peer's first semaphore, in the order of the signals from the last summand on. -/
def owed (c : Dev nD) : CellTallies nD τ sig Unit :=
  owedLanding c + tallyAt (barCell (peer 2 c)) () 1 + tallyAt (barCell (peer 1 c)) () 1 + tallyAt (barCell (peer 0 c)) () 1

theorem tallyAt_kcell (c d : Dev nD) (i j : Cell) (n : ℕ) :
    (tallyAt (kcell (c, i)) () n : CellTallies nD τ sig Unit) (kcell (d, j)) () = if c = d ∧ i = j then n else 0 := by
  rw [tallyAt_apply]
  by_cases h : c = d ∧ i = j
  · rw [if_pos h, if_pos ⟨by rw [h.1, h.2], rfl⟩]
  · rw [if_neg h, if_neg fun h' => h ⟨(kcell_inj.mp h'.1.symm).1, (kcell_inj.mp h'.1.symm).2⟩]

theorem tallyAt_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

theorem owedLanding_pos {c : Dev nD} {g : GSem nD τ sig} {u : Unit} (h : 0 < owedLanding c g u) : ∃ k, g = recvCell (peer k c) k := by
  unfold owedLanding at h
  simp only [Pi.add_apply, Finsupp.add_apply] at h
  rcases Nat.add_pos_iff_pos_or_pos.mp h with h | h
  · rcases Nat.add_pos_iff_pos_or_pos.mp h with h | h
    · exact ⟨2, tallyAt_pos h⟩
    · exact ⟨0, tallyAt_pos h⟩
  · exact ⟨1, tallyAt_pos h⟩

theorem owed_pos {c : Dev nD} {g : GSem nD τ sig} {u : Unit} (h : 0 < owed c g u) :
    (∃ k, g = recvCell (peer k c) k) ∨ ∃ k, g = barCell (peer k c) := by
  unfold owed at h
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact .inl (owedLanding_pos h)
      · exact .inr ⟨2, tallyAt_pos h⟩
    · exact .inr ⟨1, tallyAt_pos h⟩
  · exact .inr ⟨0, tallyAt_pos h⟩

/-- Every semaphore of a device's main core has a level: -/
def L (g : GSem nD τ sig) : Finset Unit := if g.1.2 = .tc then {()} else ∅
def levelOf : Option Cell → ℕ
  | some none => 1
  | some (some (_, true)) => 2
  | _ => 0
/-- 1 for the first semaphores, 2 for the landing ones, 0 for the rest. -/
def lv (g : GSem nD τ sig) (_ : Unit) : ℕ := levelOf (role g.2)

theorem lv_cell (c : Dev nD) (i : Cell) (u : Unit) : lv (kcell (c, i)) u = levelOf (some i) := by unfold lv; rw [role_csem]
theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by
  rw [L_tc]; exact Finset.mem_singleton_self _

omit [FloatOps F] in
/-- The waits for a block's arrival in the staging buffers come below all that is owed. -/
theorem mayWait_stage (c : Dev nD) (q : DmaSem sig) (hq : role (.dma q) = none) (O : CellTallies nD τ sig Unit) (hO : O = owed c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L _ _ _)
      (fun g u hg => by rcases owed_pos hg with ⟨k, rfl⟩ | ⟨k, rfl⟩ <;> exact mem_L _ _ _)
      (fun p hp => by rw [Finset.mem_singleton.mp hp]; unfold lv; rw [hq]; rfl)
      (fun g u hg => by rcases owed_pos hg with ⟨k, rfl⟩ | ⟨k, rfl⟩ <;> (rw [lv_cell]; first | exact Nat.two_pos | exact Nat.one_pos))
  · rw [MayWait_zero]; iintro -; iempintro

omit [FloatOps F] in
/-- At its first semaphore a device owes landings only, which are above. -/
theorem mayWait_bar (c : Dev nD) : (levAts L lv : sProp 𝕄) ⊢ MayWait (c : Thread nD τ) (.reg barS) () (owedLanding c) :=
  MayOwe.of_cut (L := L) (lev := lv) 1 (fun p hp => by rw [Finset.mem_singleton.mp hp]; exact mem_L _ _ _)
    (fun g u hg => by obtain ⟨k, rfl⟩ := owedLanding_pos hg; exact mem_L _ _ _)
    (fun p hp => by rw [Finset.mem_singleton.mp hp]; show lv (barCell c) _ ≤ 1; rw [lv_cell]; decide)
    (fun g u hg => by obtain ⟨k, rfl⟩ := owedLanding_pos hg; rw [lv_cell]; exact Nat.one_lt_two)

end Cert.Exchange

end
-- ==== Proof.Block.lean ====
/-
# What a device computes from the four blocks

A device adds its own block to the three it receives, in the order of arrival that the program fixes, and applies the
pointwise function `t ↦ tanh t · t · t + r · r · r`, `r` the larger of `t` and zero.
-/
module

public import proofs.«01_k».proof.Proof.Gen.KernelIdeal.Skeleton
public import Idealize.ShloMosaic.Lib.Pipeline.Value

@[expose] public section

noncomputable section

namespace Cert.Exchange

open Cert.KernelIdeal Cert.KernelIdeal.Gen
open Idealize.ShloMosaic

variable {F : FTy → Type} [FloatOps F]

/-- The sum of the four blocks, widened. -/
def blockSum (x a b d : FVec F S512x256 .bf16) : FVec F S512x256 .f32 :=
  addf (addf (addf (extf .f32 x bitsLt_bf16_f32) (extf .f32 a bitsLt_bf16_f32)) (extf .f32 b bitsLt_bf16_f32)) (extf .f32 d bitsLt_bf16_f32)

/-- The larger of a sum and zero. -/
def blockRelu (s : FVec F S512x256 .f32) : FVec F S512x256 .f32 :=
  maximumf s (broadcast S512x256 (Scalar.ofBits .f32 0x00000000#32))

/-- The pointwise function of the sum, narrowed. -/
def blockFun (s : FVec F S512x256 .f32) : FVec F S512x256 .bf16 :=
  truncf .bf16 (addf (mulf (mulf (tanh s) s) s) (mulf (mulf (blockRelu s) (blockRelu s)) (blockRelu s))) bitsLt_bf16_f32

/-- The block is staged as it is. -/
theorem staged_eq (x : Vec F S512x256 .bf16) : k0_pay1 x = x := by
  simp only [k0_pay1, shapeCast_self]

/-- The stored block is the function of the sum of the device's block and the three landed ones, each landed one the
    vector read off a slot without its unit axis. -/
theorem stored_eq (x : Vec F S512x256 .bf16) (v0 v2 v1 : Vec F S1x512x256 .bf16) :
    k0_pay4 (k0_pay2 x v0) (k0_pay3 v2) v1
      = blockFun (blockSum x (shapeCast S512x256 v0 shapeCasts_S1x512x256_S512x256) (shapeCast S512x256 v2 shapeCasts_S1x512x256_S512x256)
          (shapeCast S512x256 v1 shapeCasts_S1x512x256_S512x256)) := by
  simp only [k0_pay4, k0_pay2, k0_pay3, shapeCast_self]; rfl

end Cert.Exchange

end
-- ==== Proof.Steps.lean ====
/-
# The steps of the exchange

One theorem for each kind of step a device takes, for every `k`: the signal to the `k`-th peer, the wait for the three
peers' slots, the copy to the `k`-th peer, the wait for the landing in slot `k`, the load of that slot, the wait for the
`k`-th copy to have left, and the end of a semaphore's use.
-/
module

public import proofs.«01_k».proof.Proof.Protocol
public import proofs.«01_k».proof.Proof.Block

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- What remains of device `c`'s run. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {α : Type} {Q : α → sProp (MT nD τ sig Unit (Elt F) ℕ UU ℕ)} {κ κ' : ℕ} {W : Waits sig Unit} {O : CellTallies nD τ sig Unit}

/-- The signal to the `k`-th peer pays its unit there and hands over the landing slot which that peer's copy fills. -/
theorem step_signal (c n : Dev nD) (k : Fin 3) (hn : n = peer k c) {a : ℕ} (ha : a = 1)
    {r : PUnit → Prog (TpuEff nD τ sig (Elt F) Λ₀ .tc) α} :
    iprop(cellInv ER (rounds m ρ) κ (barCell (peer k c)) ∗ owes (c : Thread nD τ) (O + tallyAt (barCell (peer k c)) () 1) W
        ∗ dutyTok ER (barCell (peer k c)) 0 (Fin.rev k) ∗ (∃ f, slotPts c (Fin.rev k) f) ∗ reached ER (recvCell c (Fin.rev k)) 0
        ∗ reached ER (barCell (peer k c)) 0)
      ⊢ iprop((owes (c : Thread nD τ) O W -∗ run c (r ⟨⟩) Q) -∗ run c (.op (.semSignal (n : Thread nD τ) barS a) r) Q) := by
  subst hn ha
  iintro ⟨HI, HO, Ht, Hs, Hr, Hb⟩ Hk
  iapply (Rounds.wp_signal 𝒱₀ ER (rounds m ρ) (c : Thread nD τ) none (dst := (peer k c : Thread nD τ)) (κ := κ)
      (d := Fin.rev k) (mem_bar m ρ (peer k c) _) (amount_cell m ρ (peer k c) none _) () O rfl) $$ [HI HO Ht Hs Hr Hb]
  · isplitl [HI]; · iexact HI
    isplitl [HO]; · iexact HO
    isplitl [Ht]; · iexact Ht
    isplitl [Hs Hr]
    · iapply (Entails.of_eq (payload_cell m ρ (peer k c) none (Fin.rev k)).symm)
      iapply (Entails.of_eq (show (barPay (F := F) (peer k c) (Fin.rev k) : sProp 𝕄) = payOf m ρ (peer k c) (Fin.rev k) (some none) from rfl))
      unfold barPay; rw [peer_rev]
      isplitl [Hs] <;> iassumption
    iexact Hb
  iexact Hk

/-- The wait for three units: the three peers' slots come with them. -/
theorem step_wait_bar (c : Dev nD) {a : ℕ} (ha : a = 3) {r : PUnit → Prog (TpuEff nD τ sig (Elt F) Λ₀ .tc) α} :
    iprop(cellInv ER (rounds m ρ) κ (barCell c) ∗ cred (tallyAt (barCell c) () 3) ∗ owes (c : Thread nD τ) (owedLanding c) W
        ∗ levAts L lv ∗ atPos ER (barCell c) 0 ∅ 0)
      ⊢ iprop((∀ W', owes (c : Thread nD τ) (owedLanding c) W' -∗ atPos ER (barCell c) 1 ∅ 0 -∗ barPay c 0 -∗ barPay c 1 -∗ barPay c 2
            -∗ run c (r ⟨⟩) Q)
          -∗ run c (.op (.semWait barS a) r) Q) := by
  subst ha
  iintro ⟨HI, Hc, HO, #Hl, Ha⟩ Hk
  iapply (Rounds.wp_wait_rest_token 𝒱₀ ER (rounds m ρ) (c : Thread nD τ) none (κ := κ)
      (wpE_semWait_eq 𝒱₀ (c : Thread nD τ) none Set.univ) (Set.mem_univ _) () (O := owedLanding c) (W := W) (R := 0) (m := 0) (T := ∅)
      (by rw [expect_bar m ρ c])) $$ [HI Hc HO Ha]
  · isplitl [HI]; · iexact HI
    isplitl [Hc]; · iexact Hc
    isplitl [HO]; · iexact HO
    isplitr; · iapply (mayWait_bar c); iexact Hl
    iexact Ha
  iintro ⟨HO, Ha, -, Hp⟩
  ihave Hp' := (Entails.of_eq (rest_bar m ρ c)) $$ Hp
  icases Hp' with ⟨H0, H1, H2⟩
  iapply Hk $$ HO Ha H0 H1 H2

/-- The copy to the `k`-th peer, reading a share of the staged block into the slot that peer handed over. -/
theorem step_send (c n : Dev nD) (k : Fin 3) (hn : n = peer k c)
    {hsc : (slot k : Memref sig (Dev.tc n : Thread nD τ).2.kind .vmem S512x256 .bf16).view.ref.isScScratch = false}
    {hsrc : stM.view.WordExact} {hdst : (slot k : Memref sig (Dev.tc n : Thread nD τ).2.kind .vmem S512x256 .bf16).view.WordExact}
    {hsem : DmaTarget.Typed .vmem (.dma (recvS k)) (.remote (Dev.tc n : Thread nD τ) (slot k) (.dma (sendS k)) hsc)}
    {r : PUnit → Prog (TpuEff nD τ sig (Elt F) Λ₀ .tc) α} :
    iprop(cellInv ER (rounds m ρ) κ (sendCell c k) ∗ cellInv ER (rounds m ρ) κ' (recvCell (peer k c) k)
        ∗ stPts m ρ c (shareTok fullShare 3 k) ∗ (∃ f, slotPts (peer k c) k f)
        ∗ owes (c : Thread nD τ) (O + tallyAt (recvCell (peer k c) k) () N) W
        ∗ dutyTok ER (sendCell c k) 0 0 ∗ reached ER (sendCell c k) 0
        ∗ dutyTok ER (recvCell (peer k c) k) 0 0 ∗ reached ER (recvCell (peer k c) k) 0)
      ⊢ iprop((cred (tallyAt (sendCell c k) () N) -∗ owes (c : Thread nD τ) O W -∗ run c (r ⟨⟩) Q)
          -∗ run c (.op (.enqueueDma stM (.remote (Dev.tc n : Thread nD τ) (slot k) (.dma (sendS k)) hsc) (.dma (recvS k)) hsrc hdst hsem) r) Q) := by
  subst hn
  iintro ⟨HI, HI', Hst, ⟨%f, Hs⟩, HO, Ht, Hr, Ht', Hr'⟩ Hk
  unfold stPts slotPts
  iapply (Rounds.wp_send_pointsTo 𝒱₀ ER (rounds m ρ) (c : Thread nD τ) none (κ₁ := κ) (κ₂ := κ')
    (r₁ := 0) (r₂ := 0) (d₁ := 0) (d₂ := 0) (fd := f) (mem_dma m ρ c k false) (mem_dma m ρ (peer k c) k true)
    () () N rfl (amount_cell m ρ c (some (k, false)) 0) (amount_cell m ρ (peer k c) (some (k, true)) 0) O rfl (W := W)
    (by rw [payload_cell]; exact BI.Entails.refl _)
    (by
      rw [payload_cell]
      show _ ⊢ slotHas (peer k c) k (xstg m ρ (source k (peer k c)))
      rw [source_peer]
      unfold slotHas slotPts
      iintro H
      iexists (slot k).view.write (Elt F) f (stM.view.read (Elt F) (xstg m ρ c)) Finset.univ
      isplitr
      · ipureintro; exact View.read_write_univ (Val := Elt F) (v := (slot k).view) f (stM.view.read (Elt F) (xstg m ρ c))
      · iexact H)) $$ [HI HI' Hst Hs HO Ht Hr Ht' Hr']
  · isplitl [HI]; · iexact HI
    isplitl [HI']; · iexact HI'
    isplitl [Hst]; · iexact Hst
    isplitl [Hs]; · iexact Hs
    isplitl [HO]; · iexact HO
    isplitl [Ht]; · iexact Ht
    isplitl [Hr]; · iexact Hr
    isplitl [Ht']; · iexact Ht'
    iexact Hr'
  iintro ⟨Hc, HO⟩
  iapply Hk $$ Hc HO

/-- The wait for the landing in slot `k`: the slot comes, holding its source's block. -/
theorem step_wait_recv (c : Dev nD) (k : Fin 3) {h : stM.view.WordExact} {h' : (slot k).view.WordExact}
    {r : PUnit → Prog (TpuEff nD τ sig (Elt F) Λ₀ .tc) α} :
    iprop(cellInv ER (rounds m ρ) κ (recvCell c k) ∗ cred (tallyAt (recvCell c k) () N) ∗ owes (c : Thread nD τ) 0 W
        ∗ atPos ER (recvCell c k) 0 ∅ 0)
      ⊢ iprop((∀ W', owes (c : Thread nD τ) 0 W' -∗ atPos ER (recvCell c k) 1 ∅ 0 -∗ slotHas c k (xstg m ρ (source k c)) -∗ run c (r ⟨⟩) Q)
          -∗ run c (.op (.waitDma2 (recvS k) stM (slot k) h h') r) Q) := by
  iintro ⟨HI, Hc, HO, Ha⟩ Hk
  iapply (Rounds.wp_wait_rest_token 𝒱₀ ER (rounds m ρ) (c : Thread nD τ) none (κ := κ)
      (wpE_waitDma2_eq 𝒱₀ (c : Thread nD τ) none Set.univ) (Set.mem_univ _) () (O := 0) (W := W) (R := 0) (m := 0) (T := ∅)
      (by rw [Nat.zero_add, expect_dma m ρ c k true])) $$ [HI Hc HO Ha]
  · isplitl [HI]; · iexact HI
    isplitl [Hc]; · iexact Hc
    isplitl [HO]; · iexact HO
    isplitr; · rw [MayWait_zero]; iempintro
    iexact Ha
  iintro ⟨HO, Ha, -, Hp⟩
  ihave Hp' := (Entails.of_eq (show _ = slotHas c k (xstg m ρ (source k c)) from rest_dma m ρ c k true)) $$ Hp
  iapply Hk $$ HO Ha Hp'

/-- The wait for the `k`-th copy to have left: its share of the staged block comes back. -/
theorem step_wait_send (c : Dev nD) (k : Fin 3) {h : (slot k).view.WordExact} {h' : stM.view.WordExact}
    {r : PUnit → Prog (TpuEff nD τ sig (Elt F) Λ₀ .tc) α} :
    iprop(cellInv ER (rounds m ρ) κ (sendCell c k) ∗ cred (tallyAt (sendCell c k) () N) ∗ owes (c : Thread nD τ) 0 W
        ∗ atPos ER (sendCell c k) 0 ∅ 0)
      ⊢ iprop((∀ W', owes (c : Thread nD τ) 0 W' -∗ atPos ER (sendCell c k) 1 ∅ 0 -∗ stPts m ρ c (shareTok fullShare 3 k) -∗ run c (r ⟨⟩) Q)
          -∗ run c (.op (.waitDma2 (sendS k) (slot k) stM h h') r) Q) := by
  iintro ⟨HI, Hc, HO, Ha⟩ Hk
  iapply (Rounds.wp_wait_rest_token 𝒱₀ ER (rounds m ρ) (c : Thread nD τ) none (κ := κ)
      (wpE_waitDma2_eq 𝒱₀ (c : Thread nD τ) none Set.univ) (Set.mem_univ _) () (O := 0) (W := W) (R := 0) (m := 0) (T := ∅)
      (by rw [Nat.zero_add, expect_dma m ρ c k false])) $$ [HI Hc HO Ha]
  · isplitl [HI]; · iexact HI
    isplitl [Hc]; · iexact Hc
    isplitl [HO]; · iexact HO
    isplitr; · rw [MayWait_zero]; iempintro
    iexact Ha
  iintro ⟨HO, Ha, -, Hp⟩
  ihave Hp' := (Entails.of_eq (show _ = stPts m ρ c (shareTok fullShare 3 k) from rest_dma m ρ c k false)) $$ Hp
  iapply Hk $$ HO Ha Hp'

/-- The load of slot `k` reads, but for a unit axis, the block the slot holds. -/
theorem step_load_slot (c : Dev nD) (k : Fin 3) (X : Vec F S512x256 .bf16) {hl : cM.view.LoadsAt (slotRect k).toLoadRect}
    {r : Vec F S1x512x256 .bf16 → Prog (TpuEff nD τ sig (Elt F) Λ₀ .tc) α} :
    (slotHas c k X : sProp 𝕄)
      ⊢ iprop((∀ v : Vec F S1x512x256 .bf16, ⌜shapeCast S512x256 v shapeCasts_S1x512x256_S512x256 = X⌝ -∗ slotHas c k X -∗ run c (r v) Q)
          -∗ run c (.op (.load cM (slotRect k).toLoadRect hl) r) Q) := by
  unfold slotHas
  iintro ⟨%f, %hf, Hs⟩ Hk
  unfold slotPts
  iapply (wp_load 𝒱₀ (c : Thread nD τ) none Set.univ (m := cM) (r := (slotRect k).toLoadRect) (S := (slot k).view.set) (f := f)
    (by rw [slot_set]; exact Finset.subset_of_eq (Finset.map_refl))) $$ Hs
  iintro Hs
  iapply Hk
  · ipureintro; exact hf
  iexists f
  isplitr
  · ipureintro; exact hf
  · iexact Hs

/-- A semaphore whose round is over is the device's again, its counter at zero. -/
theorem close_cell (c : Dev nD) (i : Cell) :
    iprop(cellInv ER (rounds m ρ) κ (kcell (c, i)) ∗ atPos ER (kcell (c, i)) 1 ∅ 0) ⊢ (iprop(|={Set.univ}=> semVal (kcell (c, i)) 0) : sProp 𝕄) :=
  Rounds.cell_close ER (rounds m ρ) (Set.mem_univ κ) (fun h => h) (R := 1) (duties_later m ρ (kcell (c, i)))

end Cert.Exchange

end
-- ==== Proof.Body.lean ====
/-
# One device's run

What a device holds before and after its run, and the run itself: the steps of `Steps` in the program's order. The
staged block is dealt into a share for each copy, which come back when the copies have left. The landing buffer is held
slot by slot; each slot goes to the peer that fills it and comes back with that peer's block.
-/
module

public import proofs.«01_k».proof.Proof.Steps
public import Idealize.ShloMosaic.Lib.Memref

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Transfers (shareTok shareDrop pointsTo_toks_split pointsTo_toks_join)

variable {F : FTy → Type} [FloatOps F]

local notation "𝕄" => MT nD τ sig Unit (Elt F) ℕ UU ℕ

variable (m : (ℓ : Loc nD τ sig) → Buf (Elt F) ℓ) (ρ : Dev nD → PrngReg)

/-! ## The buffers, held in parts -/

/-- A whole buffer of device `c`, at some contents. -/
abbrev anyAt (c : Dev nD) (b : Ref sig .tc) : sProp 𝕄 :=
  iprop(∃ f : Buf (Elt F) ((c : Thread nD τ).loc b), ((c : Thread nD τ).loc b) ↦{fullShare} f)

omit [FloatOps F] in
/-- The staged block is a remainder and a share for each copy; -/
theorem stage_deal (c : Dev nD) :
    (((c : Thread nD τ).loc cc0_scratch0) ↦{fullShare} xstg m ρ c : sProp 𝕄)
      ⊢ iprop(stPts m ρ c (shareDrop fullShare 3) ∗ stPts m ρ c (shareTok fullShare 3 0) ∗ stPts m ρ c (shareTok fullShare 3 1)
          ∗ stPts m ρ c (shareTok fullShare 3 2)) := by
  refine (pointsTo_toks_split fullShare 3).trans ?_
  rw [bigSep_fin3]
  unfold stPts
  rw [show (stM.view.set) = Finset.univ from View.set_whole _]

omit [FloatOps F] in
/-- and these are the staged block again. -/
theorem stage_gather (c : Dev nD) :
    iprop(stPts m ρ c (shareDrop fullShare 3) ∗ stPts m ρ c (shareTok fullShare 3 0) ∗ stPts m ρ c (shareTok fullShare 3 1)
        ∗ stPts m ρ c (shareTok fullShare 3 2))
      ⊢ (((c : Thread nD τ).loc cc0_scratch0) ↦{fullShare} xstg m ρ c : sProp 𝕄) := by
  refine BI.Entails.trans ?_ (pointsTo_toks_join fullShare 3)
  rw [bigSep_fin3]
  unfold stPts
  rw [show (stM.view.set) = Finset.univ from View.set_whole _]
  exact BI.Entails.refl _

/-- The three landing slots, each at some contents. -/
def slotsAny (c : Dev nD) : sProp 𝕄 := iprop((∃ f, slotPts c 0 f) ∗ (∃ f, slotPts c 1 f) ∗ (∃ f, slotPts c 2 f))

omit [FloatOps F] in
/-- A slot as a part of the landing buffer. -/
theorem slotPts_eq (c : Dev nD) (k : Fin 3) (f) :
    (slotPts c k f : sProp 𝕄) = (((c : Thread nD τ).loc cc0_scratch1) ↦[(slotRect k).set]{fullShare} f) := by
  unfold slotPts
  exact congrArg (fun S => (((c : Thread nD τ).loc cc0_scratch1) ↦[S]{fullShare} f : sProp 𝕄)) (slot_set k)

omit [FloatOps F] in
/-- The landing buffer is its slots; -/
theorem slots_deal (c : Dev nD) : (anyAt c cc0_scratch1 : sProp 𝕄) ⊢ slotsAny c := by
  iintro ⟨%f, H⟩
  ihave H' := (Entails.of_eq (Ring.pointsTo_blocks (ℓ := (c : Thread nD τ).loc cc0_scratch1) (fun k : Fin 3 => (slotRect k).set)
    slot_disjoint slot_cover (q := fullShare) f)) $$ H
  ihave H'' := (Entails.of_eq ((bigSep_congr fun k _ => (slotPts_eq c k f).symm).trans (bigSep_fin3 _))) $$ H'
  icases H'' with ⟨H0, H1, H2⟩
  unfold slotsAny
  isplitl [H0]; · iexists f; iexact H0
  isplitl [H1]; · iexists f; iexact H1
  iexists f; iexact H2

omit [FloatOps F] in
/-- and these are the landing buffer again. -/
theorem slots_gather (c : Dev nD) : (slotsAny c : sProp 𝕄) ⊢ anyAt c cc0_scratch1 := by
  unfold slotsAny
  iintro ⟨⟨%f, H0⟩, H1, H2⟩
  iapply (Ring.pointsTo_blocks_join_exists (ℓ := (c : Thread nD τ).loc cc0_scratch1) (fun k : Fin 3 => (slotRect k).set)
    slot_disjoint slot_cover (q := fullShare) f)
  iapply (Entails.of_eq ((bigSep_congr fun k _ => show (iprop(∃ f, slotPts c k f) : sProp 𝕄) = _ by simp only [slotPts_eq]).symm.trans
    (bigSep_fin3 (fun k => (iprop(∃ f, slotPts c k f) : sProp 𝕄)))).symm)
  isplitl [H0]; · iexists f; iexact H0
  isplitl [H1] <;> iassumption

omit [FloatOps F] in
theorem slotHas_any (c : Dev nD) (k : Fin 3) (X) : (slotHas c k X : sProp 𝕄) ⊢ iprop(∃ f, slotPts c k f) := by
  unfold slotHas
  iintro ⟨%f, -, H⟩
  iexists f; iexact H

/-! ## Before and after -/

/-- The result of device `c`: the function of the sum of its block and of its three sources' blocks. -/
def outAt (c : Dev nD) : (cc0_stg1_0 : Ref sig .tc).ty.Contents (Elt F) :=
  blockFun (blockSum (xstg m ρ c) (xstg m ρ (source 0 c)) (xstg m ρ (source 2 c)) (xstg m ρ (source 1 c)))

/-- What all devices share: every semaphore follows its rounds, and is at its first. -/
def records (K : Dev nD × Cell → ℕ) : sProp 𝕄 :=
  iprop((bigSep Finset.univ fun ci : Dev nD × Cell => cellInv ER (rounds m ρ) (K ci) (kcell ci))
    ∗ bigSep Finset.univ fun ci : Dev nD × Cell => reached ER (kcell ci) 0)

instance records_persistent (K : Dev nD × Cell → ℕ) : BI.Persistent (records m ρ K) := by unfold records; infer_instance

omit [FloatOps F] in
theorem inv_at (K : Dev nD × Cell → ℕ) (c : Dev nD) (i : Cell) : records m ρ K ⊢ cellInv ER (rounds m ρ) (K (c, i)) (kcell (c, i)) := by
  unfold records
  have h : (bigSep Finset.univ fun ci : Dev nD × Cell => (cellInv ER (rounds m ρ) (K ci) (kcell ci) : sProp 𝕄))
      ⊢ cellInv ER (rounds m ρ) (K (c, i)) (kcell (c, i)) := bigSep_elim (Finset.mem_univ (c, i))
  iintro ⟨H, -⟩
  iapply h; iexact H
omit [FloatOps F] in
theorem reached_at (K : Dev nD × Cell → ℕ) (c : Dev nD) (i : Cell) : records m ρ K ⊢ reached ER (kcell (c, i)) 0 := by
  unfold records
  have h : (bigSep Finset.univ fun ci : Dev nD × Cell => (reached ER (kcell ci) 0 : sProp 𝕄)) ⊢ reached ER (kcell (c, i)) 0 :=
    bigSep_elim (Finset.mem_univ (c, i))
  iintro ⟨-, H⟩
  iapply h; iexact H

/-- A statement for each of a device's seven semaphores. -/
def allCells (Φ : Cell → sProp 𝕄) : sProp 𝕄 :=
  iprop(Φ none ∗ (Φ (some (0, false)) ∗ Φ (some (1, false)) ∗ Φ (some (2, false))) ∗ Φ (some (0, true)) ∗ Φ (some (1, true)) ∗ Φ (some (2, true)))

/-- The right to make, for each `k`, the `k`-th signal, the `k`-th copy's leaving and its landing. -/
def payToks (c : Dev nD) (k : Fin 3) : sProp 𝕄 :=
  iprop(dutyTok ER (barCell (peer k c)) 0 (Fin.rev k) ∗ dutyTok ER (sendCell c k) 0 0 ∗ dutyTok ER (recvCell (peer k c) k) 0 0)

/-- What one device alone holds of the exchange: its place at each of its semaphores and those rights. -/
def linear (c : Dev nD) : sProp 𝕄 :=
  iprop(allCells (fun i => atPos ER (kcell (c, i)) 0 ∅ 0) ∗ payToks c 0 ∗ payToks c 1 ∗ payToks c 2)

def ghost (K : Dev nD × Cell → ℕ) (c : Dev nD) : sProp 𝕄 := iprop(records m ρ K ∗ linear c)

/-- The credit device `c` is due at launch: three units at its first semaphore, a block's at each landing one. -/
def dues (c : Dev nD) : sProp 𝕄 :=
  iprop(cred (tallyAt (barCell c) () 3) ∗ cred (tallyAt (recvCell c 0) () N) ∗ cred (tallyAt (recvCell c 1) () N) ∗ cred (tallyAt (recvCell c 2) () N))

/-- What device `c` starts from, -/
def start (c : Dev nD) : sProp 𝕄 := iprop((∃ K, ghost m ρ K c) ∗ dues c ∗ levAts L lv)
/-- with its two buffers; -/
def Φ₀ (c : Dev nD) : sProp 𝕄 := iprop(start m ρ c ∗ anyAt c cc0_scratch0 ∗ slotsAny c)
/-- and what it ends with: the buffers, and its seven counters at zero. -/
def Φ₁ (c : Dev nD) : sProp 𝕄 := iprop(anyAt c cc0_scratch0 ∗ slotsAny c ∗ allCells fun i => semVal (kcell (c, i)) 0)

/-- The staging pipeline's data: its one point, the contents after it, what is held and owed before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => owed c
    | ⟨_ + 1, _⟩ => 0

theorem fetch_0 (t : Fin cfg0.N) : (cfg0.win (0 : Fin 2)).fetch t = true := by rw [fin_N0 t]; rfl

/-- A staging buffer of device `c` holding `X`. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-! ## The run -/

/-- A whole block's rectangle. -/
abbrev blockRect : Rect S512x256 := Rect.unit (s := S512x256) ![0, 0] S512x256.size inb_S512x256_S512x256_0_0

theorem corner : (![0, 0] : Fin 2 → Nat) = fun _ => 0 := funext fun a => by fin_cases a <;> rfl
omit [FloatOps F] in
theorem read_x (f : (cc0_stg0_0 : Ref sig .tc).ty.Contents (Elt F)) : xM.view.readAt (Elt F) blockRect.toLoadRect f = f :=
  Memref.readAt_unit_zero (Elt F) cc0_stg0_0 corner _ f

omit [FloatOps F] in
/-- A store of a whole block into the copy leaves that block there, -/
theorem store_copy (old new : (cc0_scratch0 : Ref sig .tc).ty.Contents (Elt F)) :
    View.write (Elt F) (stM.access blockRect) old new Finset.univ = new :=
  Memref.write_access_unit_zero_univ _ _ corner _ old new
omit [FloatOps F] in
/-- and so does one into the result. -/
theorem store_result (old new : (cc0_stg1_0 : Ref sig .tc).ty.Contents (Elt F)) :
    View.write (Elt F) (oM.access blockRect) old new Finset.univ = new :=
  Memref.write_access_unit_zero_univ _ _ corner _ old new

/-- All that the run starts from, and all that it ends with. -/
def bodyPre (K : Dev nD × Cell → ℕ) (c : Dev nD) : sProp 𝕄 :=
  iprop(((ghost m ρ K c ∗ dues c ∗ levAts L lv) ∗ anyAt c cc0_scratch0 ∗ slotsAny c)
    ∗ (dats m ρ 0 c).owesAt () t0_0.castSucc
    ∗ (∃ d, holds c cc0_stg0_0 ((dats m ρ 0 c).before (0 : Fin 2) t0_0 d))
    ∗ (∃ d, holds c cc0_stg1_0 ((dats m ρ 0 c).before (1 : Fin 2) t0_0 d)))
def bodyPost (c : Dev nD) : sProp 𝕄 :=
  iprop(Φ₁ c ∗ (dats m ρ 0 c).owesAt () t0_0.succ ∗ holds c cc0_stg0_0 (xstg m ρ c) ∗ holds c cc0_stg1_0 (outAt m ρ c))

set_option maxHeartbeats 1600000 in
/-- The run of device `c`, step by step. -/
theorem sound_body (K : Dev nD × Cell → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost linear allCells payToks dues slotsAny
  iintro ⟨⟨⟨⟨⟨#HR, ⟨HaB, ⟨HaS0, HaS1, HaS2⟩, HaV0, HaV1, HaV2⟩, ⟨HtB0, HtS0, HtV0⟩, ⟨HtB1, HtS1, HtV1⟩, HtB2, HtS2, HtV2⟩, ⟨HcB, HcV0, HcV1, HcV2⟩, #Hlev⟩, ⟨%fst, Hst⟩, Hs0, Hs1, Hs2⟩,
    Ho, ⟨%d0, %g0, %hg0, Hx⟩, ⟨%d1, %g1, %hg1, Hout⟩⟩, Hk⟩
  have hx : g0 = xstg m ρ c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = owed c from rfl]
  unfold owed
  -- the signals
  iapply (step_signal m ρ c _ 0 (dev1_eq c) (κ := K (peer 0 c, none)) (O := owedLanding c + tallyAt (barCell (peer 2 c)) () 1 + tallyAt (barCell (peer 1 c)) () 1) (by decide)) $$ [HO HtB0 Hs2]
  · isplitr; · iapply (inv_at m ρ K (peer 0 c) none); iexact HR
    isplitl [HO]; · iexact HO
    isplitl [HtB0]; · iexact HtB0
    isplitl [Hs2]; · iexact Hs2
    isplitr; · iapply (reached_at m ρ K c (some (2, true))); iexact HR
    iapply (reached_at m ρ K (peer 0 c) none); iexact HR
  iintro HO
  iapply (step_signal m ρ c _ 1 (dev2_eq c) (κ := K (peer 1 c, none)) (O := owedLanding c + tallyAt (barCell (peer 2 c)) () 1) (by decide)) $$ [HO HtB1 Hs1]
  · isplitr; · iapply (inv_at m ρ K (peer 1 c) none); iexact HR
    isplitl [HO]; · iexact HO
    isplitl [HtB1]; · iexact HtB1
    isplitl [Hs1]; · iexact Hs1
    isplitr; · iapply (reached_at m ρ K c (some (1, true))); iexact HR
    iapply (reached_at m ρ K (peer 1 c) none); iexact HR
  iintro HO
  iapply (step_signal m ρ c _ 2 (dev3_eq c) (κ := K (peer 2 c, none)) (O := owedLanding c) (by decide)) $$ [HO HtB2 Hs0]
  · isplitr; · iapply (inv_at m ρ K (peer 2 c) none); iexact HR
    isplitl [HO]; · iexact HO
    isplitl [HtB2]; · iexact HtB2
    isplitl [Hs0]; · iexact Hs0
    isplitr; · iapply (reached_at m ρ K c (some (0, true))); iexact HR
    iapply (reached_at m ρ K (peer 2 c) none); iexact HR
  iintro HO
  -- the staged copy of the block
  iapply (wp_load 𝒱₀ (c : Thread nD τ) none Set.univ (m := xM) (Finset.subset_univ _)) $$ Hx; iintro Hx
  rw [read_x]
  iapply (wp_load 𝒱₀ (c : Thread nD τ) none Set.univ (m := stM) (Finset.subset_univ _)) $$ Hst; iintro Hst
  iapply (wp_store 𝒱₀ (c : Thread nD τ) none Set.univ (m := stM) (r := blockRect) (Mk := Finset.univ) (Finset.subset_univ _)) $$ Hst; iintro Hst
  rw [store_copy, staged_eq]
  ihave Hst' := (stage_deal m ρ c) $$ Hst
  icases Hst' with ⟨HD, Hq0, Hq1, Hq2⟩
  -- the three peers' slots
  iapply (step_wait_bar m ρ c (κ := K (c, none)) (by decide)) $$ [HcB HO HaB]
  · isplitr; · iapply (inv_at m ρ K c none); iexact HR
    isplitl [HcB]; · iexact HcB
    isplitl [HO]; · iexact HO
    isplitr; · iexact Hlev
    iexact HaB
  iintro %W1 HO HaB Hp0 Hp1 Hp2
  unfold barPay
  icases Hp0 with ⟨Hs0, #Hr0⟩
  icases Hp1 with ⟨Hs1, #Hr1⟩
  icases Hp2 with ⟨Hs2, #Hr2⟩
  -- the copies
  ihave HO := (Entails.of_eq (congrArg (fun O => (owes (c : Thread nD τ) O W1 : sProp 𝕄))
    (show owedLanding c = 0 + tallyAt (recvCell (peer 2 c) 2) () N + tallyAt (recvCell (peer 0 c) 0) () N + tallyAt (recvCell (peer 1 c) 1) () N by
      rw [zero_add]; rfl))) $$ HO
  iapply (step_send m ρ c _ 1 (dev4_eq c) (κ := K (c, some (1, false))) (κ' := K (peer 1 c, some (1, true))) (O := 0 + tallyAt (recvCell (peer 2 c) 2) () N + tallyAt (recvCell (peer 0 c) 0) () N)) $$ [Hq1 Hs1 HO HtS1 HtV1]
  · isplitr; · iapply (inv_at m ρ K c (some (1, false))); iexact HR
    isplitr; · iapply (inv_at m ρ K (peer 1 c) (some (1, true))); iexact HR
    isplitl [Hq1]; · iexact Hq1
    isplitl [Hs1]; · iexact Hs1
    isplitl [HO]; · iexact HO
    isplitl [HtS1]; · iexact HtS1
    isplitr; · iapply (reached_at m ρ K c (some (1, false))); iexact HR
    isplitl [HtV1]; · iexact HtV1
    iexact Hr1
  iintro HcS1 HO
  iapply (step_send m ρ c _ 0 (dev5_eq c) (κ := K (c, some (0, false))) (κ' := K (peer 0 c, some (0, true))) (O := 0 + tallyAt (recvCell (peer 2 c) 2) () N)) $$ [Hq0 Hs0 HO HtS0 HtV0]
  · isplitr; · iapply (inv_at m ρ K c (some (0, false))); iexact HR
    isplitr; · iapply (inv_at m ρ K (peer 0 c) (some (0, true))); iexact HR
    isplitl [Hq0]; · iexact Hq0
    isplitl [Hs0]; · iexact Hs0
    isplitl [HO]; · iexact HO
    isplitl [HtS0]; · iexact HtS0
    isplitr; · iapply (reached_at m ρ K c (some (0, false))); iexact HR
    isplitl [HtV0]; · iexact HtV0
    iexact Hr0
  iintro HcS0 HO
  iapply (step_send m ρ c _ 2 (dev6_eq c) (κ := K (c, some (2, false))) (κ' := K (peer 2 c, some (2, true))) (O := 0)) $$ [Hq2 Hs2 HO HtS2 HtV2]
  · isplitr; · iapply (inv_at m ρ K c (some (2, false))); iexact HR
    isplitr; · iapply (inv_at m ρ K (peer 2 c) (some (2, true))); iexact HR
    isplitl [Hq2]; · iexact Hq2
    isplitl [Hs2]; · iexact Hs2
    isplitl [HO]; · iexact HO
    isplitl [HtS2]; · iexact HtS2
    isplitr; · iapply (reached_at m ρ K c (some (2, false))); iexact HR
    isplitl [HtV2]; · iexact HtV2
    iexact Hr2
  iintro HcS2 HO
  iapply (wp_load 𝒱₀ (c : Thread nD τ) none Set.univ (m := xM) (Finset.subset_univ _)) $$ Hx; iintro Hx
  rw [read_x]
  -- the landings
  iapply (step_wait_recv m ρ c 0 (κ := K (c, some (0, true)))) $$ [HcV0 HO HaV0]
  · isplitr; · iapply (inv_at m ρ K c (some (0, true))); iexact HR
    isplitl [HcV0]; · iexact HcV0
    isplitl [HO] <;> iassumption
  iintro %V0 HO HaV0 Hl0
  iapply (step_load_slot c 0 _) $$ Hl0
  iintro %v0 %hv0 Hl0
  iapply (step_wait_recv m ρ c 2 (κ := K (c, some (2, true)))) $$ [HcV2 HO HaV2]
  · isplitr; · iapply (inv_at m ρ K c (some (2, true))); iexact HR
    isplitl [HcV2]; · iexact HcV2
    isplitl [HO] <;> iassumption
  iintro %V2 HO HaV2 Hl2
  iapply (step_load_slot c 2 _) $$ Hl2
  iintro %v2 %hv2 Hl2
  iapply (step_wait_recv m ρ c 1 (κ := K (c, some (1, true)))) $$ [HcV1 HO HaV1]
  · isplitr; · iapply (inv_at m ρ K c (some (1, true))); iexact HR
    isplitl [HcV1]; · iexact HcV1
    isplitl [HO] <;> iassumption
  iintro %V1 HO HaV1 Hl1
  iapply (step_load_slot c 1 _) $$ Hl1
  iintro %v1 %hv1 Hl1
  -- the result
  iapply (wp_load 𝒱₀ (c : Thread nD τ) none Set.univ (m := oM) (Finset.subset_univ _)) $$ Hout; iintro Hout
  iapply (wp_store 𝒱₀ (c : Thread nD τ) none Set.univ (m := oM) (r := blockRect) (Mk := Finset.univ) (Finset.subset_univ _)) $$ Hout; iintro Hout
  rw [store_result, stored_eq, hv0, hv2, hv1]
  -- the copies have left
  iapply (step_wait_send m ρ c 0 (κ := K (c, some (0, false)))) $$ [HcS0 HO HaS0]
  · isplitr; · iapply (inv_at m ρ K c (some (0, false))); iexact HR
    isplitl [HcS0]; · iexact HcS0
    isplitl [HO] <;> iassumption
  iintro %U0 HO HaS0 Hq0
  iapply (step_wait_send m ρ c 1 (κ := K (c, some (1, false)))) $$ [HcS1 HO HaS1]
  · isplitr; · iapply (inv_at m ρ K c (some (1, false))); iexact HR
    isplitl [HcS1]; · iexact HcS1
    isplitl [HO] <;> iassumption
  iintro %U1 HO HaS1 Hq1
  iapply (step_wait_send m ρ c 2 (κ := K (c, some (2, false)))) $$ [HcS2 HO HaS2]
  · isplitr; · iapply (inv_at m ρ K c (some (2, false))); iexact HR
    isplitl [HcS2]; · iexact HcS2
    isplitl [HO] <;> iassumption
  iintro %U2 HO HaS2 Hq2
  unfold run; rw [wp_ret]
  -- the semaphores are the device's again
  imod (close_cell m ρ c (none) (κ := K (c, none))) $$ [HaB] with HzB
  · isplitr; · iapply (inv_at m ρ K c (none)); iexact HR
    iexact HaB
  imod (close_cell m ρ c (some (0, false)) (κ := K (c, some (0, false)))) $$ [HaS0] with HzS0
  · isplitr; · iapply (inv_at m ρ K c (some (0, false))); iexact HR
    iexact HaS0
  imod (close_cell m ρ c (some (1, false)) (κ := K (c, some (1, false)))) $$ [HaS1] with HzS1
  · isplitr; · iapply (inv_at m ρ K c (some (1, false))); iexact HR
    iexact HaS1
  imod (close_cell m ρ c (some (2, false)) (κ := K (c, some (2, false)))) $$ [HaS2] with HzS2
  · isplitr; · iapply (inv_at m ρ K c (some (2, false))); iexact HR
    iexact HaS2
  imod (close_cell m ρ c (some (0, true)) (κ := K (c, some (0, true)))) $$ [HaV0] with HzV0
  · isplitr; · iapply (inv_at m ρ K c (some (0, true))); iexact HR
    iexact HaV0
  imod (close_cell m ρ c (some (1, true)) (κ := K (c, some (1, true)))) $$ [HaV1] with HzV1
  · isplitr; · iapply (inv_at m ρ K c (some (1, true))); iexact HR
    iexact HaV1
  imod (close_cell m ρ c (some (2, true)) (κ := K (c, some (2, true)))) $$ [HaV2] with HzV2
  · isplitr; · iapply (inv_at m ρ K c (some (2, true))); iexact HR
    iexact HaV2
  imodintro
  iapply Hk
  unfold bodyPost Φ₁ allCells slotsAny Dat.owesAt Pipeline.owesWithin
  rw [show (dats m ρ 0 c).owed t0_0.succ = 0 from rfl]
  isplitr [HO Hx Hout]
  · isplitl [HD Hq0 Hq1 Hq2]
    · iexists xstg m ρ c
      iapply (stage_gather m ρ c)
      isplitl [HD]; · iexact HD
      isplitl [Hq0]; · iexact Hq0
      isplitl [Hq1] <;> iassumption
    isplitl [Hl0 Hl1 Hl2]
    · isplitl [Hl0]; · iapply (slotHas_any c 0 _); iexact Hl0
      isplitl [Hl1]; · iapply (slotHas_any c 1 _); iexact Hl1
      iapply (slotHas_any c 2 _); iexact Hl2
    isplitl [HzB]; · iexact HzB
    isplitl [HzS0 HzS1 HzS2]
    · isplitl [HzS0]; · iexact HzS0
      isplitl [HzS1] <;> iassumption
    isplitl [HzV0]; · iexact HzV0
    isplitl [HzV1] <;> iassumption
  isplitl [HO]
  · iexists U2
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- So each point of the staging pipeline does what its data say. -/
theorem body_obligation (c : Dev nD) : BodyObligation (dats (F := F) m ρ 0 c) (defs₀ (F := F)) 𝒱₀ () Set.univ := fun t => by
  rw [show t = t0_0 from fin_N0 t, bigSep_W0, bigSep_W0]
  simp only [owns_whole_eq]
  show iprop(Φ₀ m ρ c ∗ (dats m ρ 0 c).owesAt () t0_0.castSucc
      ∗ (∃ d, holds c cc0_stg0_0 ((dats m ρ 0 c).before (0 : Fin 2) t0_0 d))
      ∗ (∃ d, holds c cc0_stg1_0 ((dats m ρ 0 c).before (1 : Fin 2) t0_0 d)))
    ⊢ wp frame (wpE (defs₀ (F := F)) 𝒱₀ c none) Set.univ
        (cc0_body (Memref.whole cc0_stg0_0) (Memref.isWhole_whole _) (Memref.whole cc0_stg1_0) (Memref.isWhole_whole _)
          (Memref.whole cc0_scratch0) (Memref.isWhole_whole _) (Memref.whole cc0_scratch1) (Memref.isWhole_whole _) cc0_scratch2 cc0_scratch3)
        (fun _ => bodyPost m ρ c)
  unfold Φ₀ start
  iintro ⟨⟨⟨⟨%K, Hg⟩, Hd, Hl⟩, Hb⟩, Hrest⟩
  iapply (sound_body m ρ K c fun _ => bodyPost m ρ c)
  unfold bodyPre
  isplitr []
  · isplitr [Hrest]
    · isplitr [Hb]
      · isplitl [Hg]; · iexact Hg
        isplitl [Hd] <;> iassumption
      iexact Hb
    iexact Hrest
  · iintro H; iexact H

end Cert.Exchange

end
-- ==== Proof.Launch.lean ====
/-
# The launch

The launch hands each device its semaphores' counters and, for each semaphore, the record of its rounds. From these the
semaphores' rules are set up once for all devices, and the rights to signal and to copy go to the devices that use them:
`k + 1` places back. What the devices owe each other adds up to the credit each is due.
-/
module

public import proofs.«01_k».proof.Proof.Body
public import Idealize.ShloMosaic.Lib.Pipeline.CollectiveSegs
public import Idealize.ShloMosaic.Lib.Quiescent

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The six sending and landing semaphores. -/
abbrev osem : Fin 6 → SemLoc sig := ![.dma (sendS 0), .dma (sendS 1), .dma (sendS 2), .dma (recvS 0), .dma (recvS 1), .dma (recvS 2)]

theorem ownSemFacts : Pipeline.OwnSemFacts cfg0.spec osem := by decide

omit [FloatOps F] in
theorem assoc (A B C : sProp 𝕄) : iprop((A ∗ B) ∗ C) = iprop(A ∗ B ∗ C) := equiv_iff.mp ⟨BI.sep_assoc, BI.sep_assoc'⟩

omit [FloatOps F] in
theorem bigSep_cells (Φ : Cell → sProp 𝕄) : bigSep Finset.univ Φ = allCells Φ := by
  rw [bigSep_univ_eq_bigSepL [none, some (0, false), some (1, false), some (2, false), some (0, true), some (1, true), some (2, true)] (by decide) (by decide)]
  unfold allCells
  rw [assoc, assoc]
  rfl

omit [FloatOps F] in
/-- The kernel's own counters and the one the launch lends are the device's seven. -/
theorem counters_eq (c : Dev nD) :
    iprop(unscopedSems0 c ∗ Pipeline.ownSems0 (Ix := Unit) (Name := ℕ) (U := UU) (Lvl := ℕ) (Val := Elt F) (τ := τ) osem c)
      = (allCells fun i => semVal (kcell (c, i)) 0 : sProp 𝕄) := by
  rw [Pipeline.ownSems0_eq_of_list c osem [0, 1, 2, 3, 4, 5] (by decide) (by decide)]
  unfold unscopedSems0 allCells
  rw [bigSep_eq_bigSepL_of_eq [SemLoc.reg barS] (by decide) (by decide), assoc, assoc]
  rfl

/-! ## The rounds at launch -/

def cells : Finset (GSem nD τ sig) := Finset.univ.map ⟨kcell, kcell_injective⟩

/-- The rights to contribute to device `c`'s own semaphores: the `k`-th unit of the first, the leaving and the landing. -/
abbrev rightOf : Dev nD × Fin 3 × Option Bool → GSem nD τ sig × ℕ × Fin 3
  | (c, k, none) => (barCell c, 0, k)
  | (c, k, some b) => (kcell (c, some (k, b)), 0, 0)

theorem rightOf_injective : Function.Injective rightOf := by
  rintro ⟨c, k, o⟩ ⟨c', k', o'⟩ h
  cases o with
  | none => cases o' with
    | none =>
      obtain ⟨h1, -⟩ := kcell_inj.mp (congrArg Prod.fst h)
      have h2 : k = k' := congrArg (fun x : GSem nD τ sig × ℕ × Fin 3 => x.2.2) h
      rw [h1, h2]
    | some b' => exact absurd (kcell_inj.mp (congrArg Prod.fst h)).2 (by simp)
  | some b => cases o' with
    | none => exact absurd (kcell_inj.mp (congrArg Prod.fst h)).2 (by simp)
    | some b' =>
      obtain ⟨h1, h2⟩ := kcell_inj.mp (congrArg Prod.fst h)
      have h3 := Prod.mk.inj (Option.some.inj h2)
      rw [h1, h3.1, h3.2]

def rights : Finset (GSem nD τ sig × ℕ × Fin 3) := Finset.univ.map ⟨rightOf, rightOf_injective⟩

/-- The launch element: the staging pipeline's and the exchange's. -/
def u₀ : UU := (initOf (Pipeline.cells cfgs cellOf_inj) (Pipeline.launchToks cfgs cellOf_inj), initOf cells rights)

/-- The three rights of one `k` at device `c`'s own semaphores. -/
def ownToks (c : Dev nD) (k : Fin 3) : sProp 𝕄 :=
  iprop(dutyTok ER (barCell c) 0 k ∗ dutyTok ER (sendCell c k) 0 0 ∗ dutyTok ER (recvCell c k) 0 0)

/-- What the launch deals device `c`: the rounds of its seven semaphores, its place at each, and those rights. -/
def G (c : Dev nD) : sProp 𝕄 :=
  iprop((bigSep Finset.univ fun i : Cell => roundState ER (rounds m ρ) (kcell (c, i)) 0)
    ∗ (bigSep Finset.univ fun i : Cell => iprop(atPos ER (kcell (c, i)) 0 ∅ 0 ∗ reached ER (kcell (c, i)) 0))
    ∗ bigSep Finset.univ fun k : Fin 3 => ownToks c k)
/-- What the set-up makes of it. -/
def G' (c : Dev nD) : sProp 𝕄 := iprop(∃ K, ghost m ρ K c)

omit [FloatOps F] in
theorem fund_rounds : BI.own (ER (initOf cells rights)) ⊢ (|==> bigSep Finset.univ (G m ρ) : sProp 𝕄) := by
  have hX (Φ : GSem nD τ sig → sProp 𝕄) : bigSep cells Φ = bigSep Finset.univ fun c : Dev nD => bigSep Finset.univ fun i : Cell => Φ (kcell (c, i)) := by
    unfold cells; rw [bigSep_map, bigSep_univ_prod]; rfl
  have hT : bigSep rights (fun x => (dutyTok ER x.1 x.2.1 x.2.2 : sProp 𝕄))
      = bigSep Finset.univ fun c : Dev nD => bigSep Finset.univ fun k : Fin 3 => ownToks c k := by
    unfold rights; rw [bigSep_map, bigSep_univ_prod]
    refine bigSep_congr fun c _ => ?_
    rw [bigSep_univ_prod]
    refine bigSep_congr fun k _ => ?_
    rw [bigSep_univ_eq_bigSepL [none, some false, some true] (by decide) (by decide)]
    rfl
  iintro HX
  imod (Rounds.fund ER (rounds m ρ) cells rights) $$ HX with ⟨Hst, Hr, Hat, Htok⟩
  imodintro
  ihave Hst' := (Entails.of_eq (hX fun g => roundState ER (rounds m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- Each of device `c`'s semaphores, its counter at zero, comes under its rounds. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : Cell => iprop(∃ κ : ℕ, cellInv ER (rounds m ρ) κ (kcell (c, i))))
          ∗ (bigSep Finset.univ fun i : Cell => iprop(atPos ER (kcell (c, i)) 0 ∅ 0 ∗ reached ER (kcell (c, i)) 0))
          ∗ bigSep Finset.univ fun k : Fin 3 => ownToks c k) := by
  unfold G
  iintro ⟨Hos, Hus, Hst, Hat, Htok⟩
  ihave Hv := (Entails.of_eq ((counters_eq (F := F) c).trans (bigSep_cells _).symm)) $$ [Hos Hus]
  · isplitl [Hus] <;> iassumption
  imod (show iprop((bigSep Finset.univ fun i : Cell => semVal (kcell (c, i)) 0) ∗ bigSep Finset.univ fun i : Cell => roundState ER (rounds m ρ) (kcell (c, i)) 0)
      ⊢ (|={Set.univ}=> bigSep Finset.univ fun i : Cell => iprop(∃ κ : ℕ, cellInv ER (rounds m ρ) κ (kcell (c, i))) : sProp 𝕄) from by
        rw [← bigSep_sep']
        exact (bigSep_mono fun i _ => (Rounds.body_intro ER (rounds m ρ) (kcell (c, i))).trans inv_alloc).trans (bigSep_fupd _ _)) $$ [Hv Hst] with Hinv
  · isplitl [Hv] <;> iassumption
  imodintro
  isplitl [Hinv]; · iexact Hinv
  isplitl [Hat] <;> iassumption

/-! ## The rights go to the devices that use them -/

omit [FloatOps F] in
theorem swap (A : Dev nD → Fin 3 → sProp 𝕄) :
    (bigSep Finset.univ fun c : Dev nD => bigSep Finset.univ fun k : Fin 3 => A c k)
      = bigSep Finset.univ fun k : Fin 3 => bigSep Finset.univ fun c : Dev nD => A c k := by
  rw [← bigSep_univ_prod fun x : Dev nD × Fin 3 => A x.1 x.2, bigSep_univ_equiv (Equiv.prodComm (Fin 3) (Dev nD)), bigSep_univ_prod]
  rfl

omit [FloatOps F] in
/-- What is held at `c` for every `c` and `k` is held at the `k`-th peer of `c` for every `c` and `k`. -/
theorem around (A : Dev nD → Fin 3 → sProp 𝕄) :
    (bigSep Finset.univ fun c : Dev nD => bigSep Finset.univ fun k : Fin 3 => A c k)
      = bigSep Finset.univ fun c : Dev nD => bigSep Finset.univ fun k : Fin 3 => A (peer k c) k := by
  rw [swap, bigSep_congr fun k _ => bigSep_univ_equiv (turn k) fun c => A c k]
  exact (swap fun c k => A (peer k c) k).symm

omit [FloatOps F] in
theorem toks_around :
    (bigSep Finset.univ fun c : Dev nD => bigSep Finset.univ fun k : Fin 3 => (ownToks c k : sProp 𝕄))
      = bigSep Finset.univ fun c : Dev nD => bigSep Finset.univ fun k : Fin 3 => payToks c k := by
  unfold ownToks payToks
  simp only [bigSep_sep']
  rw [around fun c k => (dutyTok ER (recvCell c k) 0 0 : sProp 𝕄),
    bigSep_congr fun c _ => bigSep_univ_equiv (Fin.revPerm (n := 3)) fun k => (dutyTok ER (barCell c) 0 k : sProp 𝕄),
    around fun c k => (dutyTok ER (barCell c) 0 (Fin.revPerm k) : sProp 𝕄)]
  rfl

omit [FloatOps F] in
/-- The records, which are shared, go to every device beside what is its own. -/
theorem deal_records (K : Dev nD × Cell → ℕ) : iprop(records m ρ K ∗ bigSep Finset.univ fun c : Dev nD => (linear c : sProp 𝕄)) ⊢ bigSep Finset.univ (G' m ρ) := by
  refine (sep_mono_left (BI.bigSep_of_persistent (Finset.univ : Finset (Dev nD)) _)).trans ?_
  rw [← bigSep_sep']
  refine bigSep_mono fun c _ => show iprop(records m ρ K ∗ linear c) ⊢ G' m ρ c from ?_
  unfold G' ghost
  iintro H
  iexists K
  iexact H

omit [FloatOps F] in
theorem regroup :
    (bigSep Finset.univ fun c : Dev nD => iprop((bigSep Finset.univ fun i : Cell => iprop(∃ κ : ℕ, cellInv ER (rounds m ρ) κ (kcell (c, i))))
          ∗ (bigSep Finset.univ fun i : Cell => iprop(atPos ER (kcell (c, i)) 0 ∅ 0 ∗ reached ER (kcell (c, i)) 0))
          ∗ bigSep Finset.univ fun k : Fin 3 => ownToks c k) : sProp 𝕄)
      ⊢ bigSep Finset.univ (G' m ρ) := by
  rw [bigSep_sep', bigSep_sep', ← bigSep_univ_prod (fun ci : Dev nD × Cell => iprop(∃ κ : ℕ, cellInv ER (rounds m ρ) κ (kcell ci))),
    bigSep_congr (s := Finset.univ) (fun (c : Dev nD) _ => bigSep_sep' Finset.univ (fun i : Cell => (atPos ER (kcell (c, i)) 0 ∅ 0 : sProp 𝕄)) (fun i => reached ER (kcell (c, i)) 0)),
    bigSep_sep', ← bigSep_univ_prod (fun ci : Dev nD × Cell => (reached ER (kcell ci) 0 : sProp 𝕄)), toks_around]
  iintro ⟨HI, ⟨Hat, #HR⟩, Htok⟩
  ihave HK := (BI.bigSep_exists_pi Finset.univ (fun (ci : Dev nD × Cell) (κ : ℕ) => (cellInv ER (rounds m ρ) κ (kcell ci) : sProp 𝕄))) $$ HI
  icases HK with ⟨%K, #HI⟩
  iapply (deal_records m ρ K)
  isplitr
  · unfold records; isplitl; · iexact HI
    iexact HR
  · iapply ((Entails.of_eq (bigSep_sep' Finset.univ (fun c : Dev nD => bigSep Finset.univ fun i : Cell => (atPos ER (kcell (c, i)) 0 ∅ 0 : sProp 𝕄))
        (fun c => bigSep Finset.univ fun k => payToks c k)).symm).trans
      (bigSep_mono fun c _ => show _ ⊢ linear c from Entails.of_eq (by unfold linear; rw [bigSep_cells, bigSep_fin3])))
    isplitl [Hat] <;> iassumption

omit [FloatOps F] in
/-- The set-up, on all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit each device is due -/

/-- Exactly one device has `c` as its `k`-th peer. -/
theorem sum_peer (k : Fin 3) (c : Dev nD) (n : ℕ) : (∑ d : Dev nD, if peer k d = c then n else 0) = n := by
  rw [Finset.sum_congr rfl fun d _ => if_congr (eq_comm.trans (eq_peer_iff k c d)) rfl rfl, Finset.sum_ite_eq' Finset.univ (source k c) fun _ => n,
    if_pos (Finset.mem_univ _)]

/-- The units due at a semaphore. -/
def dueOf : Cell → ℕ
  | none => 3
  | some (_, true) => N
  | some (_, false) => 0

theorem owed_bar (d c : Dev nD) : owed d (barCell c) () = (if peer 2 d = c then 1 else 0) + (if peer 1 d = c then 1 else 0) + (if peer 0 d = c then 1 else 0) := by
  simp [owed, owedLanding, Pi.add_apply, Finsupp.add_apply, tallyAt_kcell]

theorem owed_recv (d c : Dev nD) (k : Fin 3) : owed d (recvCell c k) () = if peer k d = c then N else 0 := by
  fin_cases k <;> simp [owed, owedLanding, Pi.add_apply, Finsupp.add_apply, tallyAt_kcell]

theorem owed_send (d c : Dev nD) (k : Fin 3) : owed d (sendCell c k) () = 0 := by
  simp [owed, owedLanding, Pi.add_apply, Finsupp.add_apply, tallyAt_kcell]

/-- What all devices owe device `c` at a semaphore is what is due there. -/
theorem launch_due (c : Dev nD) (i : Cell) :
    tallyOn (kcell (c, i)) (launchCredit (Pipeline.owing owed) 0 (kcell (c, i))) = (tallyAt (kcell (c, i)) () (dueOf i) : CellTallies nD τ sig Unit) := by
  unfold tallyAt; refine congrArg _ (Finsupp.ext fun u => ?_); cases u
  rw [Pipeline.launchCredit_owing, Finsupp.single_eq_same]
  rcases i with _ | ⟨k, _ | _⟩
  · rw [Finset.sum_congr rfl fun d _ => owed_bar d c, Finset.sum_add_distrib, Finset.sum_add_distrib, sum_peer, sum_peer, sum_peer]; rfl
  · rw [Finset.sum_congr rfl fun d _ => owed_send d c k, Finset.sum_const_zero]; rfl
  · rw [Finset.sum_congr rfl fun d _ => owed_recv d c k, sum_peer]; rfl

omit [FloatOps F] in
theorem creds (c : Dev nD) : (Pipeline.launchCred owed c : sProp 𝕄) ⊢ dues c := by
  unfold Pipeline.launchCred
  refine (bigSep_subset (Finset.subset_univ (({none, some (0, true), some (1, true), some (2, true)} : Finset Cell).map ⟨csem, csem_injective⟩))).trans ?_
  rw [bigSep_map]
  show bigSep _ (fun i => cred (tallyOn (kcell (c, i)) (launchCredit (Pipeline.owing owed) 0 (kcell (c, i))))) ⊢ _
  rw [bigSep_congr fun i _ => congrArg (fun x : CellTallies nD τ sig Unit => (cred x : sProp 𝕄)) (launch_due c i),
    bigSep_eq_bigSepL_of_eq [none, some (0, true), some (1, true), some (2, true)] (by decide) (by decide)]
  exact BI.Entails.refl _

/-! ## Entry and exit -/

omit [FloatOps F] in
theorem start_intro (c : Dev nD) :
    iprop(Pipeline.unscopedRestP Pipeline.Prefetch.none cfg0.spec c (fun b => m ((c : Thread nD τ).loc b)) ∗ levAts L lv
        ∗ Pipeline.launchCred owed c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hst, Hc⟩
  isplitl [Hs]; · iexact Hs
  isplitl [Hst]; · iexact Hst
  iapply (slots_deal c); iexact Hc

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  iintro ⟨Hst, Hs, Hz⟩
  ihave Hz' := (Entails.of_eq (counters_eq (F := F) c).symm) $$ Hz
  icases Hz' with ⟨Hu, Ho⟩
  isplitl [Hu]; · iexact Hu
  isplitl [Ho]; · iexact Ho
  isplitl [Hst]; · iexact Hst
  iapply (slots_gather c); iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run of all devices -/

/-- Device `c`'s arrays in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values and from any memory whose counters are at zero, every fair run of the four devices ends, with
    each device's arrays at those contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_rounds m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Arrays.lean ====
/-
# The arrays after the run

Each of the two windows is a whole array and has one grid point. So the block a device fetches is its argument, and its
result array ends as the block its body stored.
-/
module

public import proofs.«01_k».proof.Proof.Launch

@[expose] public section

noncomputable section

namespace Cert.Exchange

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The argument's window starts at the array's first element, -/
theorem start_x : (fun a => win0_0.index (0 : Fin 1) a * main_arg0.ty.shape.size a) = fun _ => 0 := by
  funext a; fin_cases a <;> decide
/-- and so does the result's. -/
theorem start_o : (fun a => win0_1.index (0 : Fin 1) a * main_v1.ty.shape.size a) = fun _ => 0 := by
  funext a; fin_cases a <;> decide

/-- The block a device fetches is its argument. -/
theorem fetched (c : Dev nD) : xstg m ρ c = m ((c : Thread nD τ).loc main_arg0) :=
  Memref.read_access_unit_zero (Elt F) main_arg0 start_x (fun a => by fin_cases a <;> decide) _

/-- Its argument is only read, so it ends as it began. -/
theorem kept (c : Dev nD) : finalA m ρ c (0 : Fin 2) = m ((c : Thread nD τ).loc main_arg0) := (dats m ρ 0 c).arrAt_in _ rfl _

/-- Its result ends as the block its body stored. -/
theorem result (c : Dev nD) : finalA m ρ c (1 : Fin 2) = outAt m ρ c := by
  refine (Memref.read_access_unit_zero (Elt F) main_v1 start_o (fun a => by fin_cases a <;> decide) _).symm.trans ?_
  refine (congrArg ((win0_1.blk (0 : Fin 1)).view.read (Elt F)) ((dats m ρ 0 c).arrAt_succ (1 : Fin 2) (0 : Fin 1))).trans ?_
  rw [if_pos (by decide : (cfg0.win (1 : Fin 2)).flush (0 : Fin 1) = true)]
  exact View.read_write_univ _ _

/-- For any float values and from any memory whose counters are at zero, every fair run of the four devices ends with
    each result the function of the four arguments, each argument unchanged, and every counter at zero. -/
theorem run_values : θ_run defs (onTc (τ := τ) (main (F := F))) (s₀ m ρ) fun r =>
    (∀ c : Dev nD, r.2.mem ((c : Thread nD τ).loc main_v1)
          = blockFun (blockSum (m ((c : Thread nD τ).loc main_arg0)) (m ((source 0 c : Thread nD τ).loc main_arg0))
              (m ((source 2 c : Thread nD τ).loc main_arg0)) (m ((source 1 c : Thread nD τ).loc main_arg0)))
        ∧ r.2.mem ((c : Thread nD τ).loc main_arg0) = m ((c : Thread nD τ).loc main_arg0))
      ∧ r.2.sem = fun _ => 0 := by
  refine (θ_run defs _ _).mono (fun r h => ⟨fun c => ⟨?_, (h.1 c (0 : Fin 2)).trans (kept m ρ c)⟩, h.2⟩) (run_main m ρ)
  refine ((h.1 c (1 : Fin 2)).trans (result m ρ c)).trans ?_
  simp only [outAt, fetched]

end Cert.Exchange

end
-- ==== Proof.Reference.lean ====
/-
# What the reference computes

The reference runs on one device and holds the whole array. Its program is a straight line of array operations: it
cuts the array into four blocks, adds them, and applies the pointwise function to the sum.
-/
module

public import proofs.«01_k».proof.Proof.Gen.ReferenceIdeal
public import Idealize.ShloMosaic.Lib.StableHlo.Run

@[expose] public section

noncomputable section

namespace Cert.Exchange.Whole

open Cert.ReferenceIdeal Cert.ReferenceIdeal.Gen
open Idealize.ShloMosaic Idealize.ShloMosaic.TcCoe Idealize.ShloMosaic.StableHlo Idealize.SL.Sem

variable {F : FTy → Type} [FloatOps F]

/-- The array as a stack of four blocks. -/
def stack (x : FVec F S2048x256 .bf16) : FVec F S4x512x256 .bf16 := shapeCast S4x512x256 x shapeCasts_S2048x256_S4x512x256

/-- The sum of the four blocks, narrowed. -/
def total (x : FVec F S2048x256 .bf16) : FVec F S512x256 .bf16 :=
  truncf .bf16 (Host.reduceAdd (extf .f32 (stack x) bitsLt_bf16_f32) (constant S_ .f32 0x00000000#32) reducesTo_S4x512x256_S512x256_d0 h_S_)
    bitsLt_bf16_f32

/-- The larger of an array and zero. -/
def relu (s : FVec F S512x256 .bf16) : FVec F S512x256 .bf16 :=
  maximumf s (broadcastInDim S512x256 ![] bcast_S_S512x256 (constant S_ .bf16 0x0000#16))

/-- The pointwise function. -/
def act (s : FVec F S512x256 .bf16) : FVec F S512x256 .bf16 :=
  addf (mulf (mulf (Host.tanh s) s) s) (mulf (mulf (relu s) (relu s)) (relu s))

/-- The operations of the program, in order. -/
def line : List (HloOp τ sig (Elt F)) :=
  [ reshape main_arg0 main_v0 rfl shapeCasts_S2048x256_S4x512x256,
    unary main_v0 main_v1 (extf (s := S4x512x256) .f32 · bitsLt_bf16_f32),
    nullary main_cst (constant S_ .f32 0x00000000#32),
    binary main_v1 main_cst main_v2 (fun x v => Host.reduceAdd (φ := .f32) (s := S4x512x256) (u := S_) x v reducesTo_S4x512x256_S512x256_d0 h_S_),
    unary main_v2 main_v3 (truncf (s := S512x256) .bf16 · bitsLt_bf16_f32),
    nullary main_cst_0 (constant S_ .bf16 0x0000#16),
    unary main_cst_0 main_v4 (broadcastInDim S512x256 ![] bcast_S_S512x256),
    binary main_v3 main_v4 main_v5 (maximumf (s := S512x256) (φ := .bf16)),
    unary main_v3 main_v6 (Host.tanh (s := S512x256) (φ := .bf16)),
    binary main_v6 main_v3 main_v7 (mulf (s := S512x256) (φ := .bf16)),
    binary main_v7 main_v3 main_v8 (mulf (s := S512x256) (φ := .bf16)),
    binary main_v5 main_v5 main_v9 (mulf (s := S512x256) (φ := .bf16)),
    binary main_v9 main_v5 main_v10 (mulf (s := S512x256) (φ := .bf16)),
    binary main_v8 main_v10 main_v11 (addf (s := S512x256) (φ := .bf16)) ]

/-- The program is that line. -/
theorem main_line (c : Dev nD) : main (F := F) c = seq line := rfl

/-- After the line the result's buffer holds the function of the sum; -/
theorem line_result (V : Valuation τ sig (Elt F)) :
    after line V (main_v11 : DevRef τ sig) = act (total (V (main_arg0 : DevRef τ sig))) := by
  unfold line
  after_results
  rfl

/-- the argument's holds what it held. -/
theorem line_arg (V : Valuation τ sig (Elt F)) : after line V (main_arg0 : DevRef τ sig) = V (main_arg0 : DevRef τ sig) := by
  unfold line
  after_results

/-- The operations name only buffers of the device. -/
theorem line_bufs : (line : List (HloOp τ sig (Elt F))).Forall fun op => op.bufs ⊆ tcRefs τ sig := by
  simp only [line, List.Forall, reshape_bufs_sub, unary_bufs_sub, nullary_bufs_sub, binary_bufs_sub, and_self]

/-- From any memory whose counters are at zero every fair run of the reference ends, with the function of the sum in
    its result's buffer and its argument unchanged. -/
theorem run_whole (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = act (total (m ((c.tc : Thread nD τ).loc main_arg0)))
        ∧ r.2.mem ((c.tc : Thread nD τ).loc main_arg0) = m ((c.tc : Thread nD τ).loc main_arg0) :=
  (θ_run defs _ _).mono (fun _ h c => ⟨(h c main_v11).trans (line_result _), (h c main_arg0).trans (line_arg _)⟩)
    (run_seq (by decide) (by decide) defs main (fun _ => line) main_line (fun _ => line_bufs) m ρ)

end Cert.Exchange.Whole

end
-- ==== Proof.Value.lean ====
/-
# The four devices compute the reference's function

At extended reals a change of format is the identity and a sum does not depend on its order. So the sum each device
forms, its own block first and the others in its order of arrival, is the reference's sum of the four blocks, and the
pointwise function is the same.
-/
module

public import proofs.«01_k».proof.Proof.Mesh
public import proofs.«01_k».proof.Proof.Block
public import proofs.«01_k».proof.Proof.Reference
public import Idealize.ShloMosaic.Lib.IdealHost
public import Idealize.ShloMosaic.Lib.Layout
public import Idealize.ShloMosaic.Lib.Pointwise.Reduce

@[expose] public section

noncomputable section

namespace Cert.Exchange

open Cert.KernelIdeal
open Idealize.ShloMosaic

/-- The pointwise function of an extended real. -/
def actAt (t : EReal) : EReal := Ideal.tanh t * t * t + max t 0 * max t 0 * max t 0

/-- A device's block holds that function of the sum; -/
theorem blockFun_at (s : FVec Ideal S512x256 .f32) (i : S512x256.Idx) : blockFun s i = actAt (s i) := by
  show Ideal.tanh (s i) * s i * s i
      + max (s i) (Ideal.ofBits .f32 0x00000000#32) * max (s i) (Ideal.ofBits .f32 0x00000000#32) * max (s i) (Ideal.ofBits .f32 0x00000000#32) = _
  rw [Ideal.ofBits_zero_f32]; rfl

/-- so does the reference's. -/
theorem act_at (s : FVec Ideal S512x256 .bf16) (i : S512x256.Idx) : Whole.act s i = actAt (s i) := by
  show Ideal.tanh (s i) * s i * s i
      + max (s i) (Ideal.ofBits .bf16 0x0000#16) * max (s i) (Ideal.ofBits .bf16 0x0000#16) * max (s i) (Ideal.ofBits .bf16 0x0000#16) = _
  rw [Ideal.ofBits_zero_bf16]; rfl

/-- Device `k`'s block is block `k` of the whole array. -/
abbrev part (X : FVec Ideal ⟨2, ![2048, 256]⟩ .bf16) (k : Fin 4) : FVec Ideal S512x256 .bf16 :=
  Layout.block ⟨2, ![512, 256]⟩ ⟨2, ![2048, 256]⟩ 0 4 k X

/-- Member `k` of the reference's stack is that block: row `r` of it is row `512 k + r` of the array. -/
theorem stack_at (X : FVec Ideal ⟨2, ![2048, 256]⟩ .bf16) (k : Fin 4) (r : Fin 512) (l : Fin 256) :
    Whole.stack X (ix3 k r l) = part X k (ix2 r l) := by
  refine shapeCast_apply X _ (ix3 k r l) _ ?_
  rw [Shape.rowMajor_val_two, Shape.rowMajor_val_three]
  show (k.val * 512 + r.val) * 256 + l.val = (k.val * 512 + r.val) * 256 + l.val
  rfl

/-- The reference's total is the sum of the four blocks. -/
theorem total_at (X : FVec Ideal ⟨2, ![2048, 256]⟩ .bf16) (i : S512x256.Idx) : Whole.total X i = ∑ k : Fin 4, part X k i := by
  have hi : i = ix2 (i 0) (i 1) := by funext a; match a with | ⟨0, _⟩ => rfl | ⟨1, _⟩ => rfl
  refine (Ideal.hostReduceAdd_r3_a0 _ (Whole.stack X) (Ideal.ofBits .f32 0x00000000#32) i).trans ?_
  rw [Ideal.ofBits_zero_f32, zero_add]
  refine Finset.sum_congr rfl fun k _ => ?_
  exact (stack_at X k (i 0) (i 1)).trans (congrArg (part X k) hi.symm)

/-- From any device, the sum that starts there and goes through its three sources in the order of arrival is the sum
    over all the devices. -/
theorem sum_around (f : Fin 4 → EReal) (c : Dev nD) :
    f c + f (source 0 c) + f (source 2 c) + f (source 1 c) = ∑ k : Fin 4, f k := by
  have hset : ∀ c : Dev nD, (Finset.univ : Finset (Fin 4)) = {c, source 0 c, source 2 c, source 1 c}
      ∧ c ∉ ({source 0 c, source 2 c, source 1 c} : Finset (Fin 4)) ∧ source 0 c ∉ ({source 2 c, source 1 c} : Finset (Fin 4))
      ∧ source 2 c ∉ ({source 1 c} : Finset (Fin 4)) := by decide
  obtain ⟨h, h0, h2, h1⟩ := hset c
  rw [h, Finset.sum_insert h0, Finset.sum_insert h2, Finset.sum_insert h1, Finset.sum_singleton]
  simp only [add_assoc]

/-- What each device stores is what the reference returns. -/
theorem block_eq_whole (X : FVec Ideal ⟨2, ![2048, 256]⟩ .bf16) (c : Dev nD) :
    blockFun (blockSum (part X c) (part X (source 0 c)) (part X (source 2 c)) (part X (source 1 c))) = Whole.act (Whole.total X) := by
  funext i
  rw [blockFun_at, act_at, total_at, ← sum_around (fun k => part X k i) c]
  rfl

end Cert.Exchange

end
-- ==== Proof.lean ====
/-
# The claims

The program and its idealization have the same text, so one run serves both: it is proved over any float values in
`Proof/Launch.lean`, and read here at bit patterns and at extended reals. The reference's run is `Proof/Reference.lean`,
the equation between the two results `Proof/Value.lean`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Arrays
public import proofs.«01_k».proof.Proof.Value
public import Idealize.ShloMosaic.Adequacy
public import Idealize.ShloMosaic.Init

@[expose] public section

noncomputable section

namespace Cert.Proof

open Idealize.ShloMosaic Idealize.SL.Sem Cert.Exchange

/-- For any float values the program runs, leaves its arguments unchanged and ends with every counter at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0 :=
  (θ_run Cert.KernelIdeal.defs _ _).mono (fun _ h => ⟨fun c => (h.1 c).2, h.2⟩) (run_values m ρ)

/-- The program and its idealization have the same body, -/
theorem tables_eq {F : FTy → Type} [FloatOps F] : Cert.Kernel.defs₀ (F := F) = Cert.KernelIdeal.defs₀ (F := F) := by
  refine congrArg Defs.onTc (funext fun l => funext fun x => ?_)
  match l, x with
  | ⟨0, _⟩, (_, _) => rfl

/-- and so the same procedures. -/
theorem procedures_eq {F : FTy → Type} [FloatOps F] : Cert.Kernel.defs (F := F) = Cert.KernelIdeal.defs (F := F) :=
  congrArg (Pipeline.defs Cert.KernelIdeal.pcfgs) tables_eq

/-- The run is therefore the claim of the program, at bit patterns, -/
theorem frame_kernel : Cert.quiescent_Kernel := fun m ρ _ => by
  rw [procedures_eq]
  exact frame (F := Bits) m ρ

/-- and of its idealization, at extended reals. -/
theorem frame_ideal : Cert.quiescent_KernelIdeal := fun m ρ _ => frame (F := Ideal) m ρ

/-- The reference runs too and leaves its argument unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Whole.run_whole (F := Ideal) m ρ)

/-- At extended reals, from memories in which each device holds its block of the reference's array, every device's result
    is the reference's result. -/
theorem values : Cert.algebraic_KernelIdeal_ReferenceIdeal := by
  intro m ρ m' ρ' _ hm
  refine ⟨_, (θ_run Cert.KernelIdeal.defs _ _).mono (fun r h c => ⟨?_, (h.1 c).2⟩) (run_values (F := Ideal) m ρ),
    (θ_run Cert.ReferenceIdeal.defs _ _).mono (fun r h => h 0) (Whole.run_whole (F := Ideal) m' ρ')⟩
  refine (h.1 c).1.trans ?_
  rw [hm c, hm (source 0 c), hm (source 2 c), hm (source 1 c)]
  exact block_eq_whole _ c

/-- All of them. -/
theorem claim : Cert.Claim :=
  ⟨Cert.Kernel.Gen.facts, Cert.KernelIdeal.Gen.facts, Cert.ReferenceIdeal.Gen.facts,
    frame_kernel, frame_ideal, frame_reference, trivial, values⟩

end Cert.Proof

end
